-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutQuery (m : (ℓ : Loc Cert.OutQuery.nD Cert.OutQuery.τ Cert.OutQuery.sig) → Buf (Elt Bits) ℓ) : Prop :=
  True

def Pre_OutQueryIdeal (m : (ℓ : Loc Cert.OutQueryIdeal.nD Cert.OutQueryIdeal.τ Cert.OutQueryIdeal.sig) → Buf (Elt Ideal) ℓ) : Prop :=
  True

def Pre_OutQueryReferenceIdeal (m : (ℓ : Loc Cert.OutQueryReferenceIdeal.nD Cert.OutQueryReferenceIdeal.τ Cert.OutQueryReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutQuery [hOutQuery : Cert.OutQuery.Facts] : Prop :=
  ∀ (m : (ℓ : Loc Cert.OutQuery.nD Cert.OutQuery.τ Cert.OutQuery.sig) → Buf (Elt Bits) ℓ) (g : Dev Cert.OutQuery.nD → PrngReg), Pre_OutQuery m →
    θ_run (Cert.OutQuery.defs (F := Bits)) (onTc (τ := Cert.OutQuery.τ) (Cert.OutQuery.main (F := Bits))) ⟨m, fun _ => 0, g⟩ (fun r => (∀ c : Dev Cert.OutQuery.nD,
      r.2.mem ((c.tc : Thread Cert.OutQuery.nD Cert.OutQuery.τ).loc Cert.OutQuery.main_arg0) = m ((c.tc : Thread Cert.OutQuery.nD Cert.OutQuery.τ).loc Cert.OutQuery.main_arg0)
      ∧ r.2.mem ((c.tc : Thread Cert.OutQuery.nD Cert.OutQuery.τ).loc Cert.OutQuery.main_arg1) = m ((c.tc : Thread Cert.OutQuery.nD Cert.OutQuery.τ).loc Cert.OutQuery.main_arg1)
      ∧ r.2.mem ((c.tc : Thread Cert.OutQuery.nD Cert.OutQuery.τ).loc Cert.OutQuery.main_arg2) = m ((c.tc : Thread Cert.OutQuery.nD Cert.OutQuery.τ).loc Cert.OutQuery.main_arg2)
      ∧ r.2.mem ((c.tc : Thread Cert.OutQuery.nD Cert.OutQuery.τ).loc Cert.OutQuery.main_arg3) = m ((c.tc : Thread Cert.OutQuery.nD Cert.OutQuery.τ).loc Cert.OutQuery.main_arg3)
      ∧ r.2.mem ((c.tc : Thread Cert.OutQuery.nD Cert.OutQuery.τ).loc Cert.OutQuery.main_arg4) = m ((c.tc : Thread Cert.OutQuery.nD Cert.OutQuery.τ).loc Cert.OutQuery.main_arg4)
      ∧ r.2.mem ((c.tc : Thread Cert.OutQuery.nD Cert.OutQuery.τ).loc Cert.OutQuery.main_arg5) = m ((c.tc : Thread Cert.OutQuery.nD Cert.OutQuery.τ).loc Cert.OutQuery.main_arg5)
      ∧ r.2.mem ((c.tc : Thread Cert.OutQuery.nD Cert.OutQuery.τ).loc Cert.OutQuery.main_arg6) = m ((c.tc : Thread Cert.OutQuery.nD Cert.OutQuery.τ).loc Cert.OutQuery.main_arg6))
      ∧ r.2.sem = fun _ => 0)

def quiescent_OutQueryIdeal [hOutQueryIdeal : Cert.OutQueryIdeal.Facts] : Prop :=
  ∀ (m : (ℓ : Loc Cert.OutQueryIdeal.nD Cert.OutQueryIdeal.τ Cert.OutQueryIdeal.sig) → Buf (Elt Ideal) ℓ) (g : Dev Cert.OutQueryIdeal.nD → PrngReg), Pre_OutQueryIdeal m →
    θ_run (Cert.OutQueryIdeal.defs (F := Ideal)) (onTc (τ := Cert.OutQueryIdeal.τ) (Cert.OutQueryIdeal.main (F := Ideal))) ⟨m, fun _ => 0, g⟩ (fun r => (∀ c : Dev Cert.OutQueryIdeal.nD,
      r.2.mem ((c.tc : Thread Cert.OutQueryIdeal.nD Cert.OutQueryIdeal.τ).loc Cert.OutQueryIdeal.main_arg0) = m ((c.tc : Thread Cert.OutQueryIdeal.nD Cert.OutQueryIdeal.τ).loc Cert.OutQueryIdeal.main_arg0)
      ∧ r.2.mem ((c.tc : Thread Cert.OutQueryIdeal.nD Cert.OutQueryIdeal.τ).loc Cert.OutQueryIdeal.main_arg1) = m ((c.tc : Thread Cert.OutQueryIdeal.nD Cert.OutQueryIdeal.τ).loc Cert.OutQueryIdeal.main_arg1)
      ∧ r.2.mem ((c.tc : Thread Cert.OutQueryIdeal.nD Cert.OutQueryIdeal.τ).loc Cert.OutQueryIdeal.main_arg2) = m ((c.tc : Thread Cert.OutQueryIdeal.nD Cert.OutQueryIdeal.τ).loc Cert.OutQueryIdeal.main_arg2)
      ∧ r.2.mem ((c.tc : Thread Cert.OutQueryIdeal.nD Cert.OutQueryIdeal.τ).loc Cert.OutQueryIdeal.main_arg3) = m ((c.tc : Thread Cert.OutQueryIdeal.nD Cert.OutQueryIdeal.τ).loc Cert.OutQueryIdeal.main_arg3)
      ∧ r.2.mem ((c.tc : Thread Cert.OutQueryIdeal.nD Cert.OutQueryIdeal.τ).loc Cert.OutQueryIdeal.main_arg4) = m ((c.tc : Thread Cert.OutQueryIdeal.nD Cert.OutQueryIdeal.τ).loc Cert.OutQueryIdeal.main_arg4)
      ∧ r.2.mem ((c.tc : Thread Cert.OutQueryIdeal.nD Cert.OutQueryIdeal.τ).loc Cert.OutQueryIdeal.main_arg5) = m ((c.tc : Thread Cert.OutQueryIdeal.nD Cert.OutQueryIdeal.τ).loc Cert.OutQueryIdeal.main_arg5)
      ∧ r.2.mem ((c.tc : Thread Cert.OutQueryIdeal.nD Cert.OutQueryIdeal.τ).loc Cert.OutQueryIdeal.main_arg6) = m ((c.tc : Thread Cert.OutQueryIdeal.nD Cert.OutQueryIdeal.τ).loc Cert.OutQueryIdeal.main_arg6))
      ∧ r.2.sem = fun _ => 0)

def quiescent_OutQueryReferenceIdeal [hOutQueryReferenceIdeal : Cert.OutQueryReferenceIdeal.Facts] : Prop :=
  ∀ (m : (ℓ : Loc Cert.OutQueryReferenceIdeal.nD Cert.OutQueryReferenceIdeal.τ Cert.OutQueryReferenceIdeal.sig) → Buf (Elt Ideal) ℓ) (g : Dev Cert.OutQueryReferenceIdeal.nD → PrngReg), Pre_OutQueryReferenceIdeal m →
    θ_run (Cert.OutQueryReferenceIdeal.defs (F := Ideal)) (onTc (τ := Cert.OutQueryReferenceIdeal.τ) (Cert.OutQueryReferenceIdeal.main (F := Ideal))) ⟨m, fun _ => 0, g⟩ (fun r => (∀ c : Dev Cert.OutQueryReferenceIdeal.nD,
      r.2.mem ((c.tc : Thread Cert.OutQueryReferenceIdeal.nD Cert.OutQueryReferenceIdeal.τ).loc Cert.OutQueryReferenceIdeal.main_arg0) = m ((c.tc : Thread Cert.OutQueryReferenceIdeal.nD Cert.OutQueryReferenceIdeal.τ).loc Cert.OutQueryReferenceIdeal.main_arg0)
      ∧ r.2.mem ((c.tc : Thread Cert.OutQueryReferenceIdeal.nD Cert.OutQueryReferenceIdeal.τ).loc Cert.OutQueryReferenceIdeal.main_arg1) = m ((c.tc : Thread Cert.OutQueryReferenceIdeal.nD Cert.OutQueryReferenceIdeal.τ).loc Cert.OutQueryReferenceIdeal.main_arg1)
      ∧ r.2.mem ((c.tc : Thread Cert.OutQueryReferenceIdeal.nD Cert.OutQueryReferenceIdeal.τ).loc Cert.OutQueryReferenceIdeal.main_arg2) = m ((c.tc : Thread Cert.OutQueryReferenceIdeal.nD Cert.OutQueryReferenceIdeal.τ).loc Cert.OutQueryReferenceIdeal.main_arg2)
      ∧ r.2.mem ((c.tc : Thread Cert.OutQueryReferenceIdeal.nD Cert.OutQueryReferenceIdeal.τ).loc Cert.OutQueryReferenceIdeal.main_arg3) = m ((c.tc : Thread Cert.OutQueryReferenceIdeal.nD Cert.OutQueryReferenceIdeal.τ).loc Cert.OutQueryReferenceIdeal.main_arg3)
      ∧ r.2.mem ((c.tc : Thread Cert.OutQueryReferenceIdeal.nD Cert.OutQueryReferenceIdeal.τ).loc Cert.OutQueryReferenceIdeal.main_arg4) = m ((c.tc : Thread Cert.OutQueryReferenceIdeal.nD Cert.OutQueryReferenceIdeal.τ).loc Cert.OutQueryReferenceIdeal.main_arg4)
      ∧ r.2.mem ((c.tc : Thread Cert.OutQueryReferenceIdeal.nD Cert.OutQueryReferenceIdeal.τ).loc Cert.OutQueryReferenceIdeal.main_arg5) = m ((c.tc : Thread Cert.OutQueryReferenceIdeal.nD Cert.OutQueryReferenceIdeal.τ).loc Cert.OutQueryReferenceIdeal.main_arg5)
      ∧ r.2.mem ((c.tc : Thread Cert.OutQueryReferenceIdeal.nD Cert.OutQueryReferenceIdeal.τ).loc Cert.OutQueryReferenceIdeal.main_arg6) = m ((c.tc : Thread Cert.OutQueryReferenceIdeal.nD Cert.OutQueryReferenceIdeal.τ).loc Cert.OutQueryReferenceIdeal.main_arg6))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7)
      ∧ r.2.mem ((c.tc : Thread Cert.GlaReferenceIdeal.nD Cert.GlaReferenceIdeal.τ).loc Cert.GlaReferenceIdeal.main_arg8) = m ((c.tc : Thread Cert.GlaReferenceIdeal.nD Cert.GlaReferenceIdeal.τ).loc Cert.GlaReferenceIdeal.main_arg8))
      ∧ r.2.sem = fun _ => 0)

def preserves_Kernel_KernelIdeal : Prop :=
  IdealRules.named_const.Statement Cert.KernelIdeal.κ "inv_sqrt2" .bf16 0x3F35#16 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)) (v4 : (c : Dev Cert.InProjIdeal.nD) → Buf (Elt Ideal) ((c.tc : Thread Cert.InProjIdeal.nD Cert.InProjIdeal.τ).loc Cert.InProjIdeal.main_v16_4)) (v5 : (c : Dev Cert.InProjIdeal.nD) → Buf (Elt Ideal) ((c.tc : Thread Cert.InProjIdeal.nD Cert.InProjIdeal.τ).loc Cert.InProjIdeal.main_v16_5)) (v6 : (c : Dev Cert.InProjIdeal.nD) → Buf (Elt Ideal) ((c.tc : Thread Cert.InProjIdeal.nD Cert.InProjIdeal.τ).loc Cert.InProjIdeal.main_v16_6)) (v7 : (c : Dev Cert.InProjIdeal.nD) → Buf (Elt Ideal) ((c.tc : Thread Cert.InProjIdeal.nD Cert.InProjIdeal.τ).loc Cert.InProjIdeal.main_v16_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_v16_4) = v4 c
          ∧ r.2.mem ((c.tc : Thread Cert.InProjIdeal.nD Cert.InProjIdeal.τ).loc Cert.InProjIdeal.main_v16_5) = v5 c
          ∧ r.2.mem ((c.tc : Thread Cert.InProjIdeal.nD Cert.InProjIdeal.τ).loc Cert.InProjIdeal.main_v16_6) = v6 c
          ∧ r.2.mem ((c.tc : Thread Cert.InProjIdeal.nD Cert.InProjIdeal.τ).loc Cert.InProjIdeal.main_v16_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_v18) = v1 c
          ∧ r.2.mem ((c.tc : Thread Cert.InProjReferenceIdeal.nD Cert.InProjReferenceIdeal.τ).loc Cert.InProjReferenceIdeal.main_v19) = v2 c
          ∧ r.2.mem ((c.tc : Thread Cert.InProjReferenceIdeal.nD Cert.InProjReferenceIdeal.τ).loc Cert.InProjReferenceIdeal.main_v21) = v3 c
          ∧ r.2.mem ((c.tc : Thread Cert.InProjReferenceIdeal.nD Cert.InProjReferenceIdeal.τ).loc Cert.InProjReferenceIdeal.main_v22) = v4 c
          ∧ r.2.mem ((c.tc : Thread Cert.InProjReferenceIdeal.nD Cert.InProjReferenceIdeal.τ).loc Cert.InProjReferenceIdeal.main_v23) = v5 c
          ∧ r.2.mem ((c.tc : Thread Cert.InProjReferenceIdeal.nD Cert.InProjReferenceIdeal.τ).loc Cert.InProjReferenceIdeal.main_v25) = v6 c
          ∧ r.2.mem ((c.tc : Thread Cert.InProjReferenceIdeal.nD Cert.InProjReferenceIdeal.τ).loc Cert.InProjReferenceIdeal.main_v26) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutQuery_OutQueryIdeal : Prop :=
  True

def algebraic_OutQueryIdeal_OutQueryReferenceIdeal [hOutQueryIdeal : Cert.OutQueryIdeal.Facts] [hOutQueryReferenceIdeal : Cert.OutQueryReferenceIdeal.Facts] : Prop :=
  ∀ (m : (ℓ : Loc Cert.OutQueryIdeal.nD Cert.OutQueryIdeal.τ Cert.OutQueryIdeal.sig) → Buf (Elt Ideal) ℓ) (g : Dev Cert.OutQueryIdeal.nD → PrngReg)
    (m' : (ℓ : Loc Cert.OutQueryReferenceIdeal.nD Cert.OutQueryReferenceIdeal.τ Cert.OutQueryReferenceIdeal.sig) → Buf (Elt Ideal) ℓ) (g' : Dev Cert.OutQueryReferenceIdeal.nD → PrngReg), Pre_OutQueryIdeal m →
    (∀ c : Dev Cert.OutQueryIdeal.nD,
      m' ((c.tc : Thread Cert.OutQueryReferenceIdeal.nD Cert.OutQueryReferenceIdeal.τ).loc Cert.OutQueryReferenceIdeal.main_arg0) = m ((c.tc : Thread Cert.OutQueryIdeal.nD Cert.OutQueryIdeal.τ).loc Cert.OutQueryIdeal.main_arg0)
      ∧ m' ((c.tc : Thread Cert.OutQueryReferenceIdeal.nD Cert.OutQueryReferenceIdeal.τ).loc Cert.OutQueryReferenceIdeal.main_arg1) = m ((c.tc : Thread Cert.OutQueryIdeal.nD Cert.OutQueryIdeal.τ).loc Cert.OutQueryIdeal.main_arg1)
      ∧ m' ((c.tc : Thread Cert.OutQueryReferenceIdeal.nD Cert.OutQueryReferenceIdeal.τ).loc Cert.OutQueryReferenceIdeal.main_arg2) = m ((c.tc : Thread Cert.OutQueryIdeal.nD Cert.OutQueryIdeal.τ).loc Cert.OutQueryIdeal.main_arg2)
      ∧ m' ((c.tc : Thread Cert.OutQueryReferenceIdeal.nD Cert.OutQueryReferenceIdeal.τ).loc Cert.OutQueryReferenceIdeal.main_arg3) = m ((c.tc : Thread Cert.OutQueryIdeal.nD Cert.OutQueryIdeal.τ).loc Cert.OutQueryIdeal.main_arg3)
      ∧ m' ((c.tc : Thread Cert.OutQueryReferenceIdeal.nD Cert.OutQueryReferenceIdeal.τ).loc Cert.OutQueryReferenceIdeal.main_arg4) = m ((c.tc : Thread Cert.OutQueryIdeal.nD Cert.OutQueryIdeal.τ).loc Cert.OutQueryIdeal.main_arg4)
      ∧ m' ((c.tc : Thread Cert.OutQueryReferenceIdeal.nD Cert.OutQueryReferenceIdeal.τ).loc Cert.OutQueryReferenceIdeal.main_arg5) = m ((c.tc : Thread Cert.OutQueryIdeal.nD Cert.OutQueryIdeal.τ).loc Cert.OutQueryIdeal.main_arg5)
      ∧ m' ((c.tc : Thread Cert.OutQueryReferenceIdeal.nD Cert.OutQueryReferenceIdeal.τ).loc Cert.OutQueryReferenceIdeal.main_arg6) = m ((c.tc : Thread Cert.OutQueryIdeal.nD Cert.OutQueryIdeal.τ).loc Cert.OutQueryIdeal.main_arg6)) →
    ∃ (v0 : (c : Dev Cert.OutQueryIdeal.nD) → Buf (Elt Ideal) ((c.tc : Thread Cert.OutQueryIdeal.nD Cert.OutQueryIdeal.τ).loc Cert.OutQueryIdeal.main_v10_0)) (v1 : (c : Dev Cert.OutQueryIdeal.nD) → Buf (Elt Ideal) ((c.tc : Thread Cert.OutQueryIdeal.nD Cert.OutQueryIdeal.τ).loc Cert.OutQueryIdeal.main_v10_1)) (v2 : (c : Dev Cert.OutQueryIdeal.nD) → Buf (Elt Ideal) ((c.tc : Thread Cert.OutQueryIdeal.nD Cert.OutQueryIdeal.τ).loc Cert.OutQueryIdeal.main_v10_2)),
      θ_run (Cert.OutQueryIdeal.defs (F := Ideal)) (onTc (τ := Cert.OutQueryIdeal.τ) (Cert.OutQueryIdeal.main (F := Ideal))) ⟨m, fun _ => 0, g⟩ (fun r => ∀ c : Dev Cert.OutQueryIdeal.nD,
          r.2.mem ((c.tc : Thread Cert.OutQueryIdeal.nD Cert.OutQueryIdeal.τ).loc Cert.OutQueryIdeal.main_v10_0) = v0 c
          ∧ r.2.mem ((c.tc : Thread Cert.OutQueryIdeal.nD Cert.OutQueryIdeal.τ).loc Cert.OutQueryIdeal.main_v10_1) = v1 c
          ∧ r.2.mem ((c.tc : Thread Cert.OutQueryIdeal.nD Cert.OutQueryIdeal.τ).loc Cert.OutQueryIdeal.main_v10_2) = v2 c
          ∧ r.2.mem ((c.tc : Thread Cert.OutQueryIdeal.nD Cert.OutQueryIdeal.τ).loc Cert.OutQueryIdeal.main_arg0) = m ((c.tc : Thread Cert.OutQueryIdeal.nD Cert.OutQueryIdeal.τ).loc Cert.OutQueryIdeal.main_arg0)
          ∧ r.2.mem ((c.tc : Thread Cert.OutQueryIdeal.nD Cert.OutQueryIdeal.τ).loc Cert.OutQueryIdeal.main_arg1) = m ((c.tc : Thread Cert.OutQueryIdeal.nD Cert.OutQueryIdeal.τ).loc Cert.OutQueryIdeal.main_arg1)
          ∧ r.2.mem ((c.tc : Thread Cert.OutQueryIdeal.nD Cert.OutQueryIdeal.τ).loc Cert.OutQueryIdeal.main_arg2) = m ((c.tc : Thread Cert.OutQueryIdeal.nD Cert.OutQueryIdeal.τ).loc Cert.OutQueryIdeal.main_arg2)
          ∧ r.2.mem ((c.tc : Thread Cert.OutQueryIdeal.nD Cert.OutQueryIdeal.τ).loc Cert.OutQueryIdeal.main_arg3) = m ((c.tc : Thread Cert.OutQueryIdeal.nD Cert.OutQueryIdeal.τ).loc Cert.OutQueryIdeal.main_arg3)
          ∧ r.2.mem ((c.tc : Thread Cert.OutQueryIdeal.nD Cert.OutQueryIdeal.τ).loc Cert.OutQueryIdeal.main_arg4) = m ((c.tc : Thread Cert.OutQueryIdeal.nD Cert.OutQueryIdeal.τ).loc Cert.OutQueryIdeal.main_arg4)
          ∧ r.2.mem ((c.tc : Thread Cert.OutQueryIdeal.nD Cert.OutQueryIdeal.τ).loc Cert.OutQueryIdeal.main_arg5) = m ((c.tc : Thread Cert.OutQueryIdeal.nD Cert.OutQueryIdeal.τ).loc Cert.OutQueryIdeal.main_arg5)
          ∧ r.2.mem ((c.tc : Thread Cert.OutQueryIdeal.nD Cert.OutQueryIdeal.τ).loc Cert.OutQueryIdeal.main_arg6) = m ((c.tc : Thread Cert.OutQueryIdeal.nD Cert.OutQueryIdeal.τ).loc Cert.OutQueryIdeal.main_arg6))
      ∧ θ_run (Cert.OutQueryReferenceIdeal.defs (F := Ideal)) (onTc (τ := Cert.OutQueryReferenceIdeal.τ) (Cert.OutQueryReferenceIdeal.main (F := Ideal))) ⟨m', fun _ => 0, g'⟩ (fun r => ∀ c : Dev Cert.OutQueryReferenceIdeal.nD,
          r.2.mem ((c.tc : Thread Cert.OutQueryReferenceIdeal.nD Cert.OutQueryReferenceIdeal.τ).loc Cert.OutQueryReferenceIdeal.main_v6) = v0 c
          ∧ r.2.mem ((c.tc : Thread Cert.OutQueryReferenceIdeal.nD Cert.OutQueryReferenceIdeal.τ).loc Cert.OutQueryReferenceIdeal.main_v26) = v1 c
          ∧ r.2.mem ((c.tc : Thread Cert.OutQueryReferenceIdeal.nD Cert.OutQueryReferenceIdeal.τ).loc Cert.OutQueryReferenceIdeal.main_v27) = v2 c
          ∧ r.2.mem ((c.tc : Thread Cert.OutQueryReferenceIdeal.nD Cert.OutQueryReferenceIdeal.τ).loc Cert.OutQueryReferenceIdeal.main_arg0) = m' ((c.tc : Thread Cert.OutQueryReferenceIdeal.nD Cert.OutQueryReferenceIdeal.τ).loc Cert.OutQueryReferenceIdeal.main_arg0)
          ∧ r.2.mem ((c.tc : Thread Cert.OutQueryReferenceIdeal.nD Cert.OutQueryReferenceIdeal.τ).loc Cert.OutQueryReferenceIdeal.main_arg1) = m' ((c.tc : Thread Cert.OutQueryReferenceIdeal.nD Cert.OutQueryReferenceIdeal.τ).loc Cert.OutQueryReferenceIdeal.main_arg1)
          ∧ r.2.mem ((c.tc : Thread Cert.OutQueryReferenceIdeal.nD Cert.OutQueryReferenceIdeal.τ).loc Cert.OutQueryReferenceIdeal.main_arg2) = m' ((c.tc : Thread Cert.OutQueryReferenceIdeal.nD Cert.OutQueryReferenceIdeal.τ).loc Cert.OutQueryReferenceIdeal.main_arg2)
          ∧ r.2.mem ((c.tc : Thread Cert.OutQueryReferenceIdeal.nD Cert.OutQueryReferenceIdeal.τ).loc Cert.OutQueryReferenceIdeal.main_arg3) = m' ((c.tc : Thread Cert.OutQueryReferenceIdeal.nD Cert.OutQueryReferenceIdeal.τ).loc Cert.OutQueryReferenceIdeal.main_arg3)
          ∧ r.2.mem ((c.tc : Thread Cert.OutQueryReferenceIdeal.nD Cert.OutQueryReferenceIdeal.τ).loc Cert.OutQueryReferenceIdeal.main_arg4) = m' ((c.tc : Thread Cert.OutQueryReferenceIdeal.nD Cert.OutQueryReferenceIdeal.τ).loc Cert.OutQueryReferenceIdeal.main_arg4)
          ∧ r.2.mem ((c.tc : Thread Cert.OutQueryReferenceIdeal.nD Cert.OutQueryReferenceIdeal.τ).loc Cert.OutQueryReferenceIdeal.main_arg5) = m' ((c.tc : Thread Cert.OutQueryReferenceIdeal.nD Cert.OutQueryReferenceIdeal.τ).loc Cert.OutQueryReferenceIdeal.main_arg5)
          ∧ r.2.mem ((c.tc : Thread Cert.OutQueryReferenceIdeal.nD Cert.OutQueryReferenceIdeal.τ).loc Cert.OutQueryReferenceIdeal.main_arg6) = m' ((c.tc : Thread Cert.OutQueryReferenceIdeal.nD Cert.OutQueryReferenceIdeal.τ).loc Cert.OutQueryReferenceIdeal.main_arg6))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)
      ∧ m' ((c.tc : Thread Cert.GlaReferenceIdeal.nD Cert.GlaReferenceIdeal.τ).loc Cert.GlaReferenceIdeal.main_arg8) = m ((c.tc : Thread Cert.GlaIdeal.nD Cert.GlaIdeal.τ).loc Cert.GlaIdeal.main_arg8)) →
    ∃ (v0 : (c : Dev Cert.GlaIdeal.nD) → Buf (Elt Ideal) ((c.tc : Thread Cert.GlaIdeal.nD Cert.GlaIdeal.τ).loc Cert.GlaIdeal.main_v7_0)) (v1 : (c : Dev Cert.GlaIdeal.nD) → Buf (Elt Ideal) ((c.tc : Thread Cert.GlaIdeal.nD Cert.GlaIdeal.τ).loc Cert.GlaIdeal.main_v7_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v7_0) = v0 c
          ∧ r.2.mem ((c.tc : Thread Cert.GlaIdeal.nD Cert.GlaIdeal.τ).loc Cert.GlaIdeal.main_v7_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v87) = v0 c
          ∧ r.2.mem ((c.tc : Thread Cert.GlaReferenceIdeal.nD Cert.GlaReferenceIdeal.τ).loc Cert.GlaReferenceIdeal.main_v89) = v1 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7)
          ∧ r.2.mem ((c.tc : Thread Cert.GlaReferenceIdeal.nD Cert.GlaReferenceIdeal.τ).loc Cert.GlaReferenceIdeal.main_arg8) = m' ((c.tc : Thread Cert.GlaReferenceIdeal.nD Cert.GlaReferenceIdeal.τ).loc Cert.GlaReferenceIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutQuery : Cert.OutQuery.Facts) (hOutQueryIdeal : Cert.OutQueryIdeal.Facts) (hOutQueryReferenceIdeal : Cert.OutQueryReferenceIdeal.Facts) (hGla : Cert.Gla.Facts) (hGlaIdeal : Cert.GlaIdeal.Facts) (hGlaReferenceIdeal : Cert.GlaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutQuery (hOutQuery := hOutQuery)
    ∧ quiescent_OutQueryIdeal (hOutQueryIdeal := hOutQueryIdeal)
    ∧ quiescent_OutQueryReferenceIdeal (hOutQueryReferenceIdeal := hOutQueryReferenceIdeal)
    ∧ quiescent_Gla (hGla := hGla)
    ∧ quiescent_GlaIdeal (hGlaIdeal := hGlaIdeal)
    ∧ quiescent_GlaReferenceIdeal (hGlaReferenceIdeal := hGlaReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_OutQuery_OutQueryIdeal
    ∧ algebraic_OutQueryIdeal_OutQueryReferenceIdeal (hOutQueryIdeal := hOutQueryIdeal) (hOutQueryReferenceIdeal := hOutQueryReferenceIdeal)
    ∧ preserves_Gla_GlaIdeal
    ∧ algebraic_GlaIdeal_GlaReferenceIdeal (hGlaIdeal := hGlaIdeal) (hGlaReferenceIdeal := hGlaReferenceIdeal)
-- ==== Kernel.lean ====
abbrev S16384x1024 : Shape := ⟨2, ![16384, 1024]⟩
abbrev S16x8x8192x128 : Shape := ⟨4, ![16, 8, 8192, 128]⟩
abbrev S1024 : Shape := ⟨1, ![1024]⟩
abbrev S1x1024 : Shape := ⟨2, ![1, 1024]⟩
abbrev S1024x1024 : Shape := ⟨2, ![1024, 1024]⟩
abbrev S1x1x8192x128 : Shape := ⟨4, ![1, 1, 8192, 128]⟩
abbrev S2048x1024 : Shape := ⟨2, ![2048, 1024]⟩
abbrev S1024x2048 : Shape := ⟨2, ![1024, 2048]⟩
abbrev S256x1024 : Shape := ⟨2, ![256, 1024]⟩
abbrev S1024x256 : Shape := ⟨2, ![1024, 256]⟩
abbrev S1x1x512x128 : Shape := ⟨4, ![1, 1, 512, 128]⟩
abbrev S512x128 : Shape := ⟨2, ![512, 128]⟩
abbrev S64x128 : Shape := ⟨2, ![64, 128]⟩
abbrev S1024x128 : Shape := ⟨2, ![1024, 128]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16x8x8192x128, .i32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S1024, .f32⟩
  | .hbm, ⟨6, _⟩ => ⟨S1x1024, .f32⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x8192x128, .i32⟩
  | .local _ .vmem, ⟨3, _⟩ => ⟨S1x1x8192x128, .i32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16384x1024 : Shape := ⟨2, ![16384, 1024]⟩
abbrev S16x8x8192x128 : Shape := ⟨4, ![16, 8, 8192, 128]⟩
abbrev S1024 : Shape := ⟨1, ![1024]⟩
abbrev S16x8x8192x128x2 : Shape := ⟨5, ![16, 8, 8192, 128, 2]⟩
abbrev S16x8x8x64x16x128x2 : Shape := ⟨7, ![16, 8, 8, 64, 16, 128, 2]⟩
abbrev S16x8x2x64x8x16x128 : Shape := ⟨7, ![16, 8, 2, 64, 8, 16, 128]⟩
abbrev S16384x16384 : Shape := ⟨2, ![16384, 16384]⟩
abbrev S1024x16384 : Shape := ⟨2, ![1024, 16384]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16x8x8192x128, .i32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S1024, .f32⟩
  | .hbm, ⟨6, _⟩ => ⟨S16x8x8192x128x2, .bf16⟩
  | .hbm, ⟨7, _⟩ => ⟨S16x8x8192x128x2, .f32⟩
  | .hbm, ⟨8, _⟩ => ⟨S16x8x8x64x16x128x2, .f32⟩
  | .hbm, ⟨9, _⟩ => ⟨S16x8x2x64x8x16x128, .f32⟩
  | .hbm, ⟨10, _⟩ => ⟨S16384x16384, .f32⟩
  | .hbm, ⟨11, _⟩ => ⟨S16384x1024, .f32⟩
  | .hbm, ⟨12, _⟩ => ⟨S16384x1024, .f32⟩
  | .hbm, ⟨13, _⟩ => ⟨S1024x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S16384x16384, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== InProj.lean ====
abbrev S2x8192x1024 : Shape := ⟨3, ![2, 8192, 1024]⟩
abbrev S1x1024 : Shape := ⟨2, ![1, 1024]⟩
abbrev S1x1024x2840 : Shape := ⟨3, ![1, 1024, 2840]⟩
abbrev S16384x1024 : Shape := ⟨2, ![16384, 1024]⟩
abbrev S1024 : Shape := ⟨1, ![1024]⟩
abbrev S1024x2840 : Shape := ⟨2, ![1024, 2840]⟩
abbrev S1024x256 : Shape := ⟨2, ![1024, 256]⟩
abbrev S1024x512 : Shape := ⟨2, ![1024, 512]⟩
abbrev S1024x16 : Shape := ⟨2, ![1024, 16]⟩
abbrev S1024x768 : Shape := ⟨2, ![1024, 768]⟩
abbrev S1024x8 : Shape := ⟨2, ![1024, 8]⟩
abbrev S_ : Shape := ⟨0, ![]⟩
abbrev S1024x128 : Shape := ⟨2, ![1024, 128]⟩
abbrev S1024x3072 : Shape := ⟨2, ![1024, 3072]⟩
abbrev S16384x256 : Shape := ⟨2, ![16384, 256]⟩
abbrev S16384x512 : Shape := ⟨2, ![16384, 512]⟩
abbrev S16384x768 : Shape := ⟨2, ![16384, 768]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 31
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2840, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x2840, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x16, .f32⟩
  | .hbm, ⟨11, _⟩ => ⟨S1024x512, .f32⟩
  | .hbm, ⟨12, _⟩ => ⟨S1024x512, .f32⟩
  | .hbm, ⟨13, _⟩ => ⟨S1024x768, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x3072, .f32⟩
  | .hbm, ⟨22, _⟩ => ⟨S1024x3072, .bf16⟩
  | .hbm, ⟨23, _⟩ => ⟨S16384x256, .f32⟩
  | .hbm, ⟨24, _⟩ => ⟨S16384x256, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x768, .f32⟩
  | .hbm, ⟨29, _⟩ => ⟨S16384x128, .f32⟩
  | .hbm, ⟨30, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x768, .f32⟩
  | .local _ .vmem, ⟨15, _⟩ => ⟨S1024x768, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S2x8192x1024 : Shape := ⟨3, ![2, 8192, 1024]⟩
abbrev S1x1024 : Shape := ⟨2, ![1, 1024]⟩
abbrev S1x1024x2840 : Shape := ⟨3, ![1, 1024, 2840]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S1024x2840 : Shape := ⟨2, ![1024, 2840]⟩
abbrev S16384x2840 : Shape := ⟨2, ![16384, 2840]⟩
abbrev S16384x256 : Shape := ⟨2, ![16384, 256]⟩
abbrev S16384x512 : Shape := ⟨2, ![16384, 512]⟩
abbrev S16384x16 : Shape := ⟨2, ![16384, 16]⟩
abbrev S16384x768 : Shape := ⟨2, ![16384, 768]⟩
abbrev S16384x8 : Shape := ⟨2, ![16384, 8]⟩
abbrev S16384x128 : Shape := ⟨2, ![16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2840, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S16384x1024, .f32⟩
  | .hbm, ⟨21, _⟩ => ⟨S1024x2840, .f32⟩
  | .hbm, ⟨22, _⟩ => ⟨S16384x2840, .f32⟩
  | .hbm, ⟨23, _⟩ => ⟨S16384x256, .f32⟩
  | .hbm, ⟨24, _⟩ => ⟨S16384x256, .f32⟩
  | .hbm, ⟨25, _⟩ => ⟨S16384x512, .f32⟩
  | .hbm, ⟨26, _⟩ => ⟨S16384x16, .f32⟩
  | .hbm, ⟨27, _⟩ => ⟨S16384x512, .f32⟩
  | .hbm, ⟨28, _⟩ => ⟨S16384x512, .f32⟩
  | .hbm, ⟨29, _⟩ => ⟨S16384x768, .f32⟩
  | .hbm, ⟨30, _⟩ => ⟨S16384x8, .f32⟩
  | .hbm, ⟨31, _⟩ => ⟨S_, .i32⟩
  | .hbm, ⟨32, _⟩ => ⟨S_, .f32⟩
  | .hbm, ⟨33, _⟩ => ⟨S16384x128, .f32⟩
  | .hbm, ⟨34, _⟩ => ⟨S_, .i32⟩
  | .hbm, ⟨35, _⟩ => ⟨S_, .f32⟩
  | .hbm, ⟨36, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_c_2 : Ref sig .tc := ⟨.hbm, 34, rfl⟩
abbrev main_call1_v0 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== OutQuery.lean ====
abbrev S16384x512 : Shape := ⟨2, ![16384, 512]⟩
abbrev S2x8192x1024 : Shape := ⟨3, ![2, 8192, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S8x2x128x128 : Shape := ⟨4, ![8, 2, 128, 128]⟩
abbrev S16x128x128 : Shape := ⟨3, ![16, 128, 128]⟩
abbrev S1024x1024 : Shape := ⟨2, ![1024, 1024]⟩
abbrev S1024 : Shape := ⟨1, ![1024]⟩
abbrev S1024x2048 : Shape := ⟨2, ![1024, 2048]⟩
abbrev S16x128x16384 : Shape := ⟨3, ![16, 128, 16384]⟩
abbrev S512x512 : Shape := ⟨2, ![512, 512]⟩
abbrev S512x1024 : Shape := ⟨2, ![512, 1024]⟩
abbrev S16x128x512 : Shape := ⟨3, ![16, 128, 512]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 20
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S16384x1024, .f32⟩
  | .hbm, ⟨8, _⟩ => ⟨S8x2x128x128, .f32⟩
  | .hbm, ⟨9, _⟩ => ⟨S16x128x128, .f32⟩
  | .hbm, ⟨10, _⟩ => ⟨S16x128x128, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2048, .f32⟩
  | .hbm, ⟨16, _⟩ => ⟨S1024x2048, .bf16⟩
  | .hbm, ⟨17, _⟩ => ⟨S16384x1024, .f32⟩
  | .hbm, ⟨18, _⟩ => ⟨S16384x1024, .bf16⟩
  | .hbm, ⟨19, _⟩ => ⟨S16x128x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S16x128x128, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S16x128x512, .f32⟩
  | .local _ .vmem, ⟨15, _⟩ => ⟨S16x128x512, .f32⟩
  | .local _ .vmem, ⟨16, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutQueryReferenceIdeal.lean ====
abbrev S16384x512 : Shape := ⟨2, ![16384, 512]⟩
abbrev S2x8192x1024 : Shape := ⟨3, ![2, 8192, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16x128x16384 : Shape := ⟨3, ![16, 128, 16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x2048, .f32⟩
  | .hbm, ⟨32, _⟩ => ⟨S16384x2048, .f32⟩
  | .hbm, ⟨33, _⟩ => ⟨S16384x8x2x128, .f32⟩
  | .hbm, ⟨34, _⟩ => ⟨S8x2x128x128, .f32⟩
  | .hbm, ⟨35, _⟩ => ⟨S8x2x128x16384, .f32⟩
  | .hbm, ⟨36, _⟩ => ⟨S16384x1024, .bf16⟩
  | .hbm, ⟨37, _⟩ => ⟨S16x128x16384, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Gla.lean ====
abbrev S16384x256 : Shape := ⟨2, ![16384, 256]⟩
abbrev S16384x512 : Shape := ⟨2, ![16384, 512]⟩
abbrev S16384x128 : Shape := ⟨2, ![16384, 128]⟩
abbrev S1x16x256 : Shape := ⟨3, ![1, 16, 256]⟩
abbrev S1x256 : Shape := ⟨2, ![1, 256]⟩
abbrev S1x128 : Shape := ⟨2, ![1, 128]⟩
abbrev S1x16384x1024 : Shape := ⟨3, ![1, 16384, 1024]⟩
abbrev S16x256 : Shape := ⟨2, ![16, 256]⟩
abbrev S_ : Shape := ⟨0, ![]⟩
abbrev S128x256 : Shape := ⟨2, ![128, 256]⟩
abbrev S256 : Shape := ⟨1, ![256]⟩
abbrev S128 : Shape := ⟨1, ![128]⟩
abbrev S16384x1024 : Shape := ⟨2, ![16384, 1024]⟩
abbrev S1024x256 : Shape := ⟨2, ![1024, 256]⟩
abbrev S1024x512 : Shape := ⟨2, ![1024, 512]⟩
abbrev S1024x128 : Shape := ⟨2, ![1024, 128]⟩
abbrev S1024x1024 : Shape := ⟨2, ![1024, 1024]⟩
abbrev S512x256 : Shape := ⟨2, ![512, 256]⟩
abbrev S256x256 : Shape := ⟨2, ![256, 256]⟩
abbrev S64x256 : Shape := ⟨2, ![64, 256]⟩
abbrev S256x512 : Shape := ⟨2, ![256, 512]⟩
abbrev S1x512 : Shape := ⟨2, ![1, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩

abbrev nBuf : Space → Nat
  | .hbm => 20
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x128, .f32⟩
  | .hbm, ⟨4, _⟩ => ⟨S16384x512, .f32⟩
  | .hbm, ⟨5, _⟩ => ⟨S1x16x256, .f32⟩
  | .hbm, ⟨6, _⟩ => ⟨S1x256, .f32⟩
  | .hbm, ⟨7, _⟩ => ⟨S1x128, .f32⟩
  | .hbm, ⟨8, _⟩ => ⟨S1x16384x1024, .f32⟩
  | .hbm, ⟨9, _⟩ => ⟨S16x256, .f32⟩
  | .hbm, ⟨10, _⟩ => ⟨S_, .i32⟩
  | .hbm, ⟨11, _⟩ => ⟨S_, .f32⟩
  | .hbm, ⟨12, _⟩ => ⟨S128x256, .f32⟩
  | .hbm, ⟨13, _⟩ => ⟨S256, .f32⟩
  | .hbm, ⟨14, _⟩ => ⟨S1x256, .f32⟩
  | .hbm, ⟨15, _⟩ => ⟨S128, .f32⟩
  | .hbm, ⟨16, _⟩ => ⟨S1x128, .f32⟩
  | .hbm, ⟨17, _⟩ => ⟨S16384x1024, .f32⟩
  | .hbm, ⟨18, _⟩ => ⟨S16384x512, .bf16⟩
  | .hbm, ⟨19, _⟩ => ⟨S16384x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S128x256, .f32⟩
  | .local _ .vmem, ⟨11, _⟩ => ⟨S1x256, .f32⟩
  | .local _ .vmem, ⟨12, _⟩ => ⟨S1x128, .f32⟩
  | .local _ .vmem, ⟨13, _⟩ => ⟨S1024x1024, .f32⟩
  | .local _ .vmem, ⟨14, _⟩ => ⟨S1024x1024, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | .local _ .vmem, ⟨18, _⟩ => ⟨S1024x1024, .bf16⟩
  | .local _ .vmem, ⟨19, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaReferenceIdeal.lean ====
abbrev S16384x256 : Shape := ⟨2, ![16384, 256]⟩
abbrev S16384x512 : Shape := ⟨2, ![16384, 512]⟩
abbrev S16384x128 : Shape := ⟨2, ![16384, 128]⟩
abbrev S1x16x256 : Shape := ⟨3, ![1, 16, 256]⟩
abbrev S1x256 : Shape := ⟨2, ![1, 256]⟩
abbrev S1x128 : Shape := ⟨2, ![1, 128]⟩
abbrev S1x16384x1024 : Shape := ⟨3, ![1, 16384, 1024]⟩
abbrev S2x128x64x4x64 : Shape := ⟨5, ![2, 128, 64, 4, 64]⟩
abbrev S_ : Shape := ⟨0, ![]⟩
abbrev S2x128x64x4x128 : Shape := ⟨5, ![2, 128, 64, 4, 128]⟩
abbrev S16384x16 : Shape := ⟨2, ![16384, 16]⟩
abbrev S16x256 : Shape := ⟨2, ![16, 256]⟩
abbrev S256 : Shape := ⟨1, ![256]⟩
abbrev S64x64 : Shape := ⟨2, ![64, 64]⟩
abbrev S64x64x1x1 : Shape := ⟨4, ![64, 64, 1, 1]⟩
abbrev S2x128x1x64x4x64 : Shape := ⟨6, ![2, 128, 1, 64, 4, 64]⟩
abbrev S2x128x64x64x4x64 : Shape := ⟨6, ![2, 128, 64, 64, 4, 64]⟩
abbrev S2x128x1x4x64 : Shape := ⟨5, ![2, 128, 1, 4, 64]⟩
abbrev S2x128x4x64x64 : Shape := ⟨5, ![2, 128, 4, 64, 64]⟩
abbrev S2x128x4x128x64 : Shape := ⟨5, ![2, 128, 4, 128, 64]⟩
abbrev S2x128x4x64x128 : Shape := ⟨5, ![2, 128, 4, 64, 128]⟩
abbrev S128 : Shape := ⟨1, ![128]⟩
abbrev S128x1 : Shape := ⟨2, ![128, 1]⟩
abbrev S128x128 : Shape := ⟨2, ![128, 128]⟩
abbrev S128x1x1 : Shape := ⟨3, ![128, 1, 1]⟩
abbrev S1x1x128 : Shape := ⟨3, ![1, 1, 128]⟩
abbrev S128x1x128 : Shape := ⟨3, ![128, 1, 128]⟩
abbrev S1x128x128 : Shape := ⟨3, ![1, 128, 128]⟩
abbrev S128x128x128 : Shape := ⟨3, ![128, 128, 128]⟩
abbrev S128x128x128x1x1 : Shape := ⟨5, ![128, 128, 128, 1, 1]⟩
abbrev S2x128x4x64 : Shape := ⟨4, ![2, 128, 4, 64]⟩
abbrev S2x1x1x128x4x64 : Shape := ⟨6, ![2, 1, 1, 128, 4, 64]⟩
abbrev S2x128x128x128x4x64 : Shape := ⟨6, ![2, 128, 128, 128, 4, 64]⟩
abbrev S2x128x128x4x64 : Shape := ⟨5, ![2, 128, 128, 4, 64]⟩
abbrev S128x128x1x1 : Shape := ⟨4, ![128, 128, 1, 1]⟩
abbrev S2x4x64x128x128 : Shape := ⟨5, ![2, 4, 64, 128, 128]⟩
abbrev S2x128x64x4 : Shape := ⟨4, ![2, 128, 64, 4]⟩
abbrev S2x128x64x4x1 : Shape := ⟨5, ![2, 128, 64, 4, 1]⟩
abbrev S1x1x1x1x128 : Shape := ⟨5, ![1, 1, 1, 1, 128]⟩
abbrev S16384x1024 : Shape := ⟨2, ![16384, 1024]⟩

abbrev nBuf : Space → Nat
  | .hbm => 156
  | .vmem => 0
  | .smem => 0
  | _ => 0

abbrev hbmTy0_0 (i : Nat) : BufTy := match i % 128 with
  | 0 => ⟨S16384x256, .f32⟩
  | 1 => ⟨S16384x256, .f32⟩
  | 2 => ⟨S16384x512, .f32⟩
  | 3 => ⟨S16384x128, .f32⟩
  | 4 => ⟨S16384x512, .f32⟩
  | 5 => ⟨S1x16x256, .f32⟩
  | 6 => ⟨S1x256, .f32⟩
  | 7 => ⟨S1x128, .f32⟩
  | 8 => ⟨S1x16384x1024, .f32⟩
  | 9 => ⟨S2x128x64x4x64, .f32⟩
  | 10 => ⟨S_, .f32⟩
  | 11 => ⟨S2x128x64x4x64, .f32⟩
  | 12 => ⟨S2x128x64x4x64, .f32⟩
  | 13 => ⟨S2x128x64x4x64, .f32⟩
  | 14 => ⟨S2x128x64x4x128, .f32⟩
  | 15 => ⟨S16384x16, .f32⟩
  | 16 => ⟨S16x256, .f32⟩
  | 17 => ⟨S16384x256, .f32⟩
  | 18 => ⟨S256, .f32⟩
  | 19 => ⟨S1x256, .f32⟩
  | 20 => ⟨S16384x256, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S16384x256, .f32⟩
  | 27 => ⟨S16384x256, .f32⟩
  | 28 => ⟨S16384x256, .i1⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S16384x256, .f32⟩
  | 38 => ⟨S_, .f32⟩
  | 39 => ⟨S16384x256, .f32⟩
  | 40 => ⟨S16384x256, .f32⟩
  | 41 => ⟨S2x128x64x4x64, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S64x64x1x1, .i1⟩
  | 54 => ⟨S2x128x1x64x4x64, .f32⟩
  | 55 => ⟨S_, .f32⟩
  | 56 => ⟨S_, .f32⟩
  | 57 => ⟨S2x128x64x64x4x64, .i1⟩
  | 58 => ⟨S2x128x64x64x4x64, .f32⟩
  | 59 => ⟨S2x128x64x64x4x64, .f32⟩
  | 60 => ⟨S2x128x64x64x4x64, .f32⟩
  | 61 => ⟨S_, .f32⟩
  | 62 => ⟨S2x128x64x4x64, .f32⟩
  | 63 => ⟨S2x128x1x4x64, .f32⟩
  | 64 => ⟨S2x128x64x4x64, .f32⟩
  | 65 => ⟨S2x128x64x4x64, .f32⟩
  | 66 => ⟨S2x128x64x4x64, .f32⟩
  | 67 => ⟨S2x128x64x4x64, .f32⟩
  | 68 => ⟨S2x128x64x4x64, .f32⟩
  | 69 => ⟨S2x128x4x64x64, .f32⟩
  | 70 => ⟨S_, .f32⟩
  | 71 => ⟨S_, .f32⟩
  | 72 => ⟨S2x128x4x64x64, .i1⟩
  | 73 => ⟨S2x128x4x64x64, .f32⟩
  | 74 => ⟨S2x128x4x64x64, .f32⟩
  | 75 => ⟨S2x128x4x128x64, .f32⟩
  | 76 => ⟨S2x128x64x4x128, .f32⟩
  | 77 => ⟨S2x128x64x4x64, .f32⟩
  | 78 => ⟨S2x128x64x4x64, .f32⟩
  | 79 => ⟨S2x128x64x4x64, .f32⟩
  | 80 => ⟨S2x128x64x4x64, .f32⟩
  | 81 => ⟨S2x128x4x64x128, .f32⟩
  | 82 => ⟨S128, .i32⟩
  | 83 => ⟨S128x1, .i32⟩
  | 84 => ⟨S1x128, .i32⟩
  | 85 => ⟨S128x128, .i32⟩
  | 86 => ⟨S128x128, .i32⟩
  | 87 => ⟨S128x128, .i1⟩
  | 88 => ⟨S128x1x1, .i32⟩
  | 89 => ⟨S1x1x128, .i32⟩
  | 90 => ⟨S128x1x128, .i32⟩
  | 91 => ⟨S128x1x128, .i32⟩
  | 92 => ⟨S128x1x128, .i1⟩
  | 93 => ⟨S1x128x128, .i1⟩
  | 94 => ⟨S128x128x128, .i1⟩
  | 95 => ⟨S128x128x128, .i1⟩
  | 96 => ⟨S128x128x128, .i1⟩
  | 97 => ⟨S128x128x128x1x1, .i1⟩
  | 98 => ⟨S2x128x4x64, .f32⟩
  | 99 => ⟨S2x1x1x128x4x64, .f32⟩
  | 100 => ⟨S_, .f32⟩
  | 101 => ⟨S_, .f32⟩
  | 102 => ⟨S2x128x128x128x4x64, .i1⟩
  | 103 => ⟨S2x128x128x128x4x64, .f32⟩
  | 104 => ⟨S2x128x128x128x4x64, .f32⟩
  | 105 => ⟨S2x128x128x128x4x64, .f32⟩
  | 106 => ⟨S_, .f32⟩
  | 107 => ⟨S2x128x128x4x64, .f32⟩
  | 108 => ⟨S2x128x128x4x64, .f32⟩
  | 109 => ⟨S128x1, .i32⟩
  | 110 => ⟨S1x128, .i32⟩
  | 111 => ⟨S128x128, .i32⟩
  | 112 => ⟨S128x128, .i32⟩
  | 113 => ⟨S128x128, .i1⟩
  | 114 => ⟨S128x128x1x1, .i1⟩
  | 115 => ⟨S_, .f32⟩
  | 116 => ⟨S_, .f32⟩
  | 117 => ⟨S2x128x128x4x64, .i1⟩
  | 118 => ⟨S2x128x128x4x64, .f32⟩
  | 119 => ⟨S2x128x128x4x64, .f32⟩
  | 120 => ⟨S2x4x64x128x128, .f32⟩
  | 121 => ⟨S2x128x4x64x128, .f32⟩
  | 122 => ⟨S2x128x4x128x64, .f32⟩
  | 123 => ⟨S2x128x64x4x128, .f32⟩
  | 124 => ⟨S2x128x64x4x128, .f32⟩
  | 125 => ⟨S128, .f32⟩
  | 126 => ⟨S2x128x64x4x128, .f32⟩
  | 127 => ⟨S_, .f32⟩
  | _ => ⟨S16384x256, .f32⟩

abbrev hbmTy0_1 (i : Nat) : BufTy := match i % 128 with
  | 0 => ⟨S2x128x64x4, .f32⟩
  | 1 => ⟨S2x128x64x4x1, .f32⟩
  | 2 => ⟨S_, .f32⟩
  | 3 => ⟨S2x128x64x4x1, .f32⟩
  | 4 => ⟨S2x128x64x4x1, .f32⟩
  | 5 => ⟨S_, .f32⟩
  | 6 => ⟨S2x128x64x4x1, .f32⟩
  | 7 => ⟨S2x128x64x4x1, .f32⟩
  | 8 => ⟨S2x128x64x4x1, .f32⟩
  | 9 => ⟨S2x128x64x4x128, .f32⟩
  | 10 => ⟨S2x128x64x4x128, .f32⟩
  | 11 => ⟨S1x1x1x1x128, .f32⟩
  | 12 => ⟨S2x128x64x4x128, .f32⟩
  | 13 => ⟨S2x128x64x4x128, .f32⟩
  | 14 => ⟨S16384x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S16384x512, .f32⟩
  | 25 => ⟨S16384x512, .bf16⟩
  | 26 => ⟨S16384x1024, .f32⟩
  | 27 => ⟨S16384x1024, .bf16⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_v20 : Ref sig .tc := ⟨.hbm, 60, rfl⟩
abbrev main_cst_2 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_3 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_4 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_v55 : Ref sig .tc := ⟨.hbm, 105, rfl⟩
abbrev main_cst_5 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_6 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_7 : Ref sig .tc := ⟨.hbm, 127, rfl⟩
abbrev main_v72 : Ref sig .tc := ⟨.hbm, 128, rfl⟩
abbrev main_v73 : Ref sig .tc := ⟨.hbm, 129, rfl⟩
abbrev main_cst_8 : Ref sig .tc := ⟨.hbm, 130, rfl⟩
abbrev main_v74 : Ref sig .tc := ⟨.hbm, 131, rfl⟩
abbrev main_v75 : Ref sig .tc := ⟨.hbm, 132, rfl⟩
abbrev main_cst_9 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_call6_v0 : Ref sig .tc := ⟨.hbm, 143, rfl⟩
abbrev main_call6_v1 : Ref sig .tc := ⟨.hbm, 144, rfl⟩
abbrev main_call6_cst : Ref sig .tc := ⟨.hbm, 145, rfl⟩
abbrev main_call6_v2 : Ref sig .tc := ⟨.hbm, 146, rfl⟩
abbrev main_call6_v3 : Ref sig .tc := ⟨.hbm, 147, rfl⟩
abbrev main_call6_cst_0 : Ref sig .tc := ⟨.hbm, 148, rfl⟩
abbrev main_call6_v4 : Ref sig .tc := ⟨.hbm, 149, rfl⟩
abbrev main_call6_v5 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩

abbrev nD : Nat := 1
abbrev τ : Topo := Topo.v7x

variable {F : FTy → Type} [FloatOps F]
-- ==== Proof.Gate.lean ====
/- A packed word holds the gates of two tokens, 64 rows of a tile of 128 apart, as two bf16. One chunk of 128 experts is decoded from
   512 rows of words (eight tiles of 64), its two halves laid out in turn: row `r` of the decoded chunk is half `r / 64 % 2` of word row
   `64 (r / 128) + r % 64`. -/
module

public import proofs.«01_k».proof.Proof.Gen.KernelIdeal.Value
public import Idealize.ShloMosaic.Lib.Pipeline.ValueKit
public import Idealize.ShloMosaic.Lib.Pointwise

@[expose] public section

set_option maxRecDepth 16384

namespace Cert.Proof

open Cert.KernelIdeal Cert.KernelIdeal.Gen
open Idealize.ShloMosaic Idealize.ShloMosaic.TcCoe
open Idealize.ShloMosaic.Pointwise

variable {F : FTy → Type} [FloatOps F] [Named F]

/-- Half `h` of a word (0 the low one) as a number: the bf16 it spells, widened. -/
noncomputable def half (b : BitVec 32) (h : Nat) : F .f32 :=
  FloatOps.extf (φ := .bf16) .f32 (by decide) (FloatOps.ofBits .bf16 (b.extractLsb' (h * 16) 16))

/-- Each piece is inside the chunk. -/
theorem slab_slices (n : Fin 16) : S512x128.Slices ![64 * (n.val / 2), 0] S64x128 := by
  revert n; decide

/-- Piece `n` of the sixteen of 64 rows that a decoded chunk is laid out from. -/
noncomputable def slab (w : Vec F S1x1x512x128 .i32) (n : Fin 16) : FVec F S64x128 .f32 :=
  extractStridedSlice S64x128 ![64 * (n.val / 2), 0]
    (unpackElementwise (F := F) (n.val % 2) (shapeCast S512x128 w shapeCasts_S1x1x512x128_S512x128) (Nat.mod_lt _ (by decide))) (slab_slices n)

/-- ROW `r` OF A DECODED CHUNK. -/
theorem gateRows_apply (w : Vec F S1x1x512x128 .i32) (r : Fin 1024) (l : Fin 128) (q : Fin 512) (hq : q.val = 64*(r.val/128)+r.val%64) :
    k0_pay6 w (ix2 r l) = half (w (ix4 0 0 q l)) (r.val / 64 % 2) := by
  refine (Idealize.ShloMosaic.concatenate_ofFn_apply (t := S1024x128) (s₁ := S64x128) 0 (slab w)
    concatenates_S64x128_S64x128_S64x128_S64x128_S64x128_S64x128_S64x128_S64x128_S64x128_S64x128_S64x128_S64x128_S64x128_S64x128_S64x128_S64x128_S1024x128_d0
    rfl 64 rfl (ix2 r l) ⟨r.val / 64, by omega⟩ rfl (ix2 ⟨r.val % 64, by omega⟩ l) rfl
    (fun b hb => by match b with | ⟨0, _⟩ => exact absurd rfl hb | ⟨1, _⟩ => rfl)).trans ?_
  pointwise [slab, half]
  have e : ∀ h, (⟨64 * (r.val / 64 / 2) + r.val % 64, h⟩ : Fin 512) = q := fun _ => Fin.ext (by show 64 * (r.val / 64 / 2) + r.val % 64 = q.val; omega)
  rw [e]

end Cert.Proof
-- ==== Proof.Hidden.lean ====
/- WHAT THE SCRATCH HOLDS at a grid point: for the block's 1024 tokens and 2048 experts, the gated GELU of the token's product with
   the expert's row, `0.5 a (1 + erf (a / √2)) · gate`. The body computes it in eight column blocks of 256 experts; each is the same
   chain of operations (`chunk_apply`) over its own rows of the table and its own two strided loads of words. -/
module

public import proofs.«01_k».proof.Proof.Gate
public import Idealize.ShloMosaic.Lib.Pipeline.ReadBack

@[expose] public section

set_option maxRecDepth 16384

namespace Cert.Proof

open Cert.KernelIdeal Cert.KernelIdeal.Gen
open Idealize.ShloMosaic Idealize.ShloMosaic.TcCoe
open Idealize.ShloMosaic.Pointwise

/-- The exact GELU times a gate, associated as both programs associate it. -/
noncomputable def gated (a g : EReal) : EReal :=
  Ideal.ofBits .bf16 0x3F00#16 * a * (1 + Ideal.erf (a * (((Real.sqrt 2)⁻¹ : ℝ) : EReal))) * g

/-- The gate of a block's token `r` and expert `e`, read off the block's words. -/
noncomputable def gateAt (x1 : Vec Ideal S1x1x8192x128 .i32) (r : Fin 1024) (e : Fin 2048) : EReal :=
  half (F := Ideal) (x1 (ix4 0 0 ⟨(64 * (r.val / 128) + r.val % 64) * 16 + e.val / 128, by omega⟩ ⟨e.val % 128, by omega⟩)) (r.val / 64 % 2)

/-- The hidden block of a grid point. -/
noncomputable def hidden (x0 : Vec Ideal S1024x1024 .bf16) (x1 : Vec Ideal S1x1x8192x128 .i32) (x2 : Vec Ideal S2048x1024 .bf16) :
    Vec Ideal S1024x2048 .bf16 :=
  fun y => gated (∑ k : Fin 1024, x0 (ix2 (y 0) k) * x2 (ix2 (y 1) k)) (gateAt x1 (y 0) (y 1))

/-- Two decoded chunks side by side. -/
theorem pair_apply (w0 w1 : Vec Ideal S1x1x512x128 .i32) (r : Fin 1024) (c : Fin 256) :
    k0_pay74 w0 w1 (ix2 r c)
      = half (F := Ideal) ((if c.val < 128 then w0 else w1) (ix4 0 0 ⟨64 * (r.val / 128) + r.val % 64, by omega⟩ ⟨c.val % 128, by omega⟩)) (r.val / 64 % 2) := by
  show concatenate S1024x256 1 [⟨S1024x128, k0_pay6 w0⟩, ⟨S1024x128, k0_pay6 w1⟩] concatenates_S1024x128_S1024x128_S1024x256_d1 (ix2 r c) = _
  pointwise
  split
  · next h =>
    have e : ∀ h, (⟨c.val % 128, h⟩ : Fin 128) = ⟨c.val, by omega⟩ := fun _ => Fin.ext (Nat.mod_eq_of_lt (by omega))
    rw [gateRows_apply w0 r _ ⟨64 * (r.val / 128) + r.val % 64, by omega⟩ rfl, e]
  · next h =>
    have e : ∀ h, (⟨c.val % 128, h⟩ : Fin 128) = ⟨c.val - 128, by omega⟩ := fun _ => Fin.ext (by show c.val % 128 = c.val - 128; omega)
    rw [gateRows_apply w1 r _ ⟨64 * (r.val / 128) + r.val % 64, by omega⟩ rfl, e]

/-- The kernel's named constant is `1/√2`. -/
theorem named_inv_sqrt2 : Named.named (F := Ideal) κ "inv_sqrt2" (φ := .bf16) 0x3F35#16 = (((Real.sqrt 2)⁻¹ : ℝ) : EReal) :=
  IdealRules.named_const.ideal_named_scalar _ _ _ _ rfl

/-- ONE COLUMN BLOCK of 256 experts, from its rows of the table and its two chunks of words. -/
theorem chunk_apply (x0 : Vec Ideal S1024x1024 .bf16) (u : Vec Ideal S256x1024 .bf16) (w0 w1 : Vec Ideal S1x1x512x128 .i32)
    (r : Fin 1024) (c : Fin 256) :
    k0_pay1 (k0_pay5 x0 u) (k0_pay74 w0 w1) (ix2 r c)
      = gated (∑ k : Fin 1024, x0 (ix2 r k) * u (ix2 c k))
          (half (F := Ideal) ((if c.val < 128 then w0 else w1) (ix4 0 0 ⟨64 * (r.val / 128) + r.val % 64, by omega⟩ ⟨c.val % 128, by omega⟩)) (r.val / 64 % 2)) := by
  pointwise [k0_pay1, k0_pay5]
  rw [pair_apply, named_inv_sqrt2]
  rfl

/-- A column block, IN PLACE: where the loaded rows of the table begin at `256 n` and the two chunks of words at `2 n` and `2 n + 1`, it is
    the hidden block's columns from `256 n`. -/
theorem chunk_eq_hidden (n : ℕ) (hn : n < 8) (X0 : Vec Ideal S1024x1024 .bf16) (X1 : Vec Ideal S1x1x8192x128 .i32) (X2 : Vec Ideal S2048x1024 .bf16)
    (u : Vec Ideal S256x1024 .bf16) (w0 w1 : Vec Ideal S1x1x512x128 .i32)
    (hu : ∀ (c : Fin 256) (k : Fin 1024), u (ix2 c k) = X2 (ix2 ⟨256 * n + c.val, by omega⟩ k))
    (h0 : ∀ (q : Fin 512) (l : Fin 128), w0 (ix4 0 0 q l) = X1 (ix4 0 0 ⟨q.val * 16 + 2 * n, by omega⟩ l))
    (h1 : ∀ (q : Fin 512) (l : Fin 128), w1 (ix4 0 0 q l) = X1 (ix4 0 0 ⟨q.val * 16 + (2 * n + 1), by omega⟩ l))
    (x : S1024x256.Idx) (y : S1024x2048.Idx) (hy0 : (y 0).val = (x 0).val) (hy1 : (y 1).val = 256 * n + (x 1).val) :
    k0_pay1 (k0_pay5 X0 u) (k0_pay74 w0 w1) x = hidden X0 X1 X2 y := by
  idx_vars x
  idx_vars y
  have hx1 : x1.val < 256 := x1.isLt
  have hy : y0.val < 1024 := y0.isLt
  obtain rfl : y0 = x0 := Fin.ext hy0
  have hy1' : y1.val = 256 * n + x1.val := hy1
  have he : ∀ h, (⟨256 * n + x1.val, h⟩ : Fin 2048) = y1 := fun _ => Fin.ext hy1'.symm
  rw [chunk_apply]
  show gated _ _ = gated (∑ k : Fin 1024, X0 (ix2 y0 k) * X2 (ix2 y1 k)) (gateAt X1 y0 y1)
  have hr : ∀ (v : ℕ) (hv : v < 8192), v = (64 * (y0.val / 128) + y0.val % 64) * 16 + y1.val / 128 →
      X1 (ix4 0 0 (⟨v, hv⟩ : Fin 8192) (⟨x1.val % 128, by omega⟩ : Fin 128))
        = X1 (ix4 0 0 ⟨(64 * (y0.val / 128) + y0.val % 64) * 16 + y1.val / 128, by omega⟩ ⟨y1.val % 128, by omega⟩) := by
    rintro v hv rfl
    refine congrArg X1 (congrArg _ (Fin.ext ?_))
    show x1.val % 128 = y1.val % 128
    omega
  congr 1
  · exact Finset.sum_congr rfl fun k _ => by rw [hu, he]
  · unfold gateAt
    by_cases hc : x1.val < 128
    · rw [if_pos hc, h0, hr _ _ (by show (64 * (y0.val / 128) + y0.val % 64) * 16 + 2 * n = _; omega)]
    · rw [if_neg hc, h1, hr _ _ (by show (64 * (y0.val / 128) + y0.val % 64) * 16 + (2 * n + 1) = _; omega)]

/-- The strided load of chunk `k`: every sixteenth row of the words from row `k`. -/
theorem lane_apply (M : Memref sig .tc .vmem S1x1x8192x128 .i32) (hM : M.IsWhole) (X : Vec Ideal S1x1x8192x128 .i32) (k : ℕ) (hk : k < 16)
    (inb : _) (q : Fin 512) (l : Fin 128) :
    View.readAt (Elt Ideal) M.view (⟨![0, 0, k, 0], ![1, 1, 512, 128], ![1, 1, 16, 1], inb⟩ : LoadRect S1x1x8192x128) (hM.unread X) (ix4 0 0 q l)
      = X (ix4 0 0 ⟨q.val * 16 + k, by omega⟩ l) := by
  rw [View.readAt_apply, hM.read_unread]
  refine congrArg X (funext fun a => Fin.ext ?_)
  match a with
  | ⟨0, _⟩ => rfl
  | ⟨1, _⟩ => rfl
  | ⟨2, _⟩ => show k + 16 * q.val = q.val * 16 + k; omega
  | ⟨3, _⟩ => show 0 + 1 * l.val = l.val; omega

/-- The rows of the table from row `256 n`. -/
theorem rows_apply (X : Vec Ideal S2048x1024 .bf16) (o : ℕ) (ho : o + 256 ≤ 2048) (inb : _) (c : Fin 256) (k : Fin 1024) :
    View.ld X (Rect.unit (s := S2048x1024) ![o, 0] ![256, 1024] inb) (ix2 c k) = X (ix2 ⟨o + c.val, by omega⟩ k) := by
  refine congrArg X (funext fun a => Fin.ext ?_)
  match a with
  | ⟨0, _⟩ => show o + 1 * c.val = o + c.val; omega
  | ⟨1, _⟩ => show 0 + 1 * k.val = k.val; omega

end Cert.Proof
-- ==== Proof.Step.lean ====
/- ONE GRID POINT. The body fills the scratch with the hidden block (eight stores of 256 columns, read back whole), and adds its product
   with the second table's rows to the output block: to zero at a token block's first point, to what the point before left at the others;
   at the block's last point the sum is added to the residual and RMS-normalised. -/
module

public import proofs.«01_k».proof.Proof.Hidden
public import Idealize.ShloMosaic.Lib.Pipeline.ValueKit

@[expose] public section

set_option maxRecDepth 16384

namespace Cert.Proof

open Cert.KernelIdeal Cert.KernelIdeal.Gen
open Idealize.ShloMosaic Idealize.ShloMosaic.TcCoe
open Idealize.ShloMosaic.Pointwise

variable (m : (ℓ : Loc nD τ sig) → Buf (Elt Ideal) ℓ)

/-- The scratch read whole is what its stores left. -/
theorem read_scratch (v : View sig .tc .vmem S1024x2048 .bf16) (L : List (View.Piece (Elt Ideal) S1024x2048 .bf16)) (inb : _) :
    v.readCov L (Rect.unit (s := S1024x2048) ![0, 0] ![1024, 2048] inb).toLoadRect = View.canon L := by
  rw [View.readCov_eq_canon']
  exact View.ld_unit_lit (S := S1024x2048) inb (View.canon L) (by decide)

theorem rows_inb (n : Fin 8) : ∀ a, (![256 * n.val, 0] : Fin 2 → ℕ) a + (![256, 1024] : Fin 2 → ℕ) a ≤ S2048x1024.size a := by
  revert n; decide

theorem lanes_inb (k : Fin 16) : ∀ a : Fin 4, (![1, 1, 512, 128] : Fin 4 → ℕ) a = 0
    ∨ (![0, 0, k.val, 0] : Fin 4 → ℕ) a + (![1, 1, 16, 1] : Fin 4 → ℕ) a * ((![1, 1, 512, 128] : Fin 4 → ℕ) a - 1) < S1x1x8192x128.size a := by
  revert k; decide

/-- The chunk `k` of words as the body loads it. -/
noncomputable def lane (M : Memref sig .tc .vmem S1x1x8192x128 .i32) (hM : M.IsWhole) (X1 : Vec Ideal S1x1x8192x128 .i32) (k : Fin 16) :
    Vec Ideal S1x1x512x128 .i32 :=
  View.readAt (Elt Ideal) M.view (⟨![0, 0, k.val, 0], ![1, 1, 512, 128], ![1, 1, 16, 1], lanes_inb k⟩ : LoadRect S1x1x8192x128) (hM.unread X1)

/-- What the body stores in column block `n` of the scratch. -/
noncomputable def cols (M : Memref sig .tc .vmem S1x1x8192x128 .i32) (hM : M.IsWhole) (X0 : Vec Ideal S1024x1024 .bf16)
    (X1 : Vec Ideal S1x1x8192x128 .i32) (X2 : Vec Ideal S2048x1024 .bf16) (n : Fin 8) : FVec Ideal S1024x256 .bf16 :=
  k0_pay1 (k0_pay5 X0 (View.ld X2 (Rect.unit (s := S2048x1024) ![256 * n.val, 0] ![256, 1024] (rows_inb n))))
    (k0_pay74 (lane M hM X1 ⟨2 * n.val, by omega⟩) (lane M hM X1 ⟨2 * n.val + 1, by omega⟩))

/-- The eight stores together leave the hidden block. -/
theorem stores_hidden (M : Memref sig .tc .vmem S1x1x8192x128 .i32) (hM : M.IsWhole) (X0 : Vec Ideal S1024x1024 .bf16)
    (X1 : Vec Ideal S1x1x8192x128 .i32) (X2 : Vec Ideal S2048x1024 .bf16) :
    View.canon (Val := Elt Ideal) (s := S1024x2048) (e := .bf16)
      [⟨Rect.unit (s := S1024x2048) ![0, 1792] ![1024, 256] inb_S1024x2048_S1024x256_0_1792, cols M hM X0 X1 X2 7⟩,
       ⟨Rect.unit (s := S1024x2048) ![0, 1536] ![1024, 256] inb_S1024x2048_S1024x256_0_1536, cols M hM X0 X1 X2 6⟩,
       ⟨Rect.unit (s := S1024x2048) ![0, 1280] ![1024, 256] inb_S1024x2048_S1024x256_0_1280, cols M hM X0 X1 X2 5⟩,
       ⟨Rect.unit (s := S1024x2048) ![0, 1024] ![1024, 256] inb_S1024x2048_S1024x256_0_1024, cols M hM X0 X1 X2 4⟩,
       ⟨Rect.unit (s := S1024x2048) ![0, 768] ![1024, 256] inb_S1024x2048_S1024x256_0_768, cols M hM X0 X1 X2 3⟩,
       ⟨Rect.unit (s := S1024x2048) ![0, 512] ![1024, 256] inb_S1024x2048_S1024x256_0_512, cols M hM X0 X1 X2 2⟩,
       ⟨Rect.unit (s := S1024x2048) ![0, 256] ![1024, 256] inb_S1024x2048_S1024x256_0_256, cols M hM X0 X1 X2 1⟩,
       ⟨Rect.unit (s := S1024x2048) ![0, 0] ![1024, 256] inb_S1024x2048_S1024x256_0_0, cols M hM X0 X1 X2 0⟩]
      = hidden X0 X1 X2 := by
  have key : ∀ (n : Fin 8) (x : S1024x256.Idx) (y : S1024x2048.Idx), (y 0).val = (x 0).val → (y 1).val = 256 * n.val + (x 1).val →
      cols M hM X0 X1 X2 n x = hidden X0 X1 X2 y := fun n x y h0 h1 =>
    chunk_eq_hidden n.val n.isLt X0 X1 X2 _ _ _ (rows_apply X2 (256 * n.val) (by omega) _) (lane_apply M hM X1 (2 * n.val) (by omega) _)
      (lane_apply M hM X1 (2 * n.val + 1) (by omega) _) x y h0 h1
  funext y
  canon_tiles x h
  exacts [key 7 x y h0 h1, key 6 x y h0 h1, key 5 x y h0 h1, key 4 x y h0 h1, key 3 x y h0 h1, key 2 x y h0 h1, key 1 x y h0 h1,
    key 0 x y h0 (by rw [h1]; exact (Nat.zero_add _).symm)]

/-- A token block's FIRST point. -/
theorem step_A (c : Dev nD) (t : Fin cfg0.N) (h0 : t.val % 8 = 0) (h1 : ¬t.val % 8 = 7) :
    outsAt0 m c t.val t.isLt = k0_pay2 k0_pay4 (hidden (iblk m c 0 t) (iblk m c 1 t) (iblk m c 2 t)) (iblk m c 3 t) := by
  rw [outsAt0_A m c t h0 h1]
  frame_open
  simp (disch := decide) only [↓ View.readCov_skip, ↓ View.readCov_cons_toLoadRect, ↓ View.readCov_fill]
  frame_out
  refine congrArg (fun z => k0_pay2 _ z (iblk m c 3 t)) ((read_scratch _ _ _).trans ?_)
  exact stores_hidden (ms0_1 t) (hs0_1 t) (iblk m c 0 t) (iblk m c 1 t) (iblk m c 2 t)

/-- A point BETWEEN. -/
theorem step_B (c : Dev nD) (t : Fin cfg0.N) (h0 : ¬t.val % 8 = 0) (h1 : ¬t.val % 8 = 7) :
    outsAt0 m c t.val t.isLt
      = k0_pay2 (outsAt0 m c (t.val - 1) (by omega)) (hidden (iblk m c 0 t) (iblk m c 1 t) (iblk m c 2 t)) (iblk m c 3 t) := by
  rw [outsAt0_B m c t h0 h1]
  frame_open
  simp (disch := decide) only [↓ View.readCov_skip, ↓ View.readCov_cons_toLoadRect, ↓ View.readCov_fill]
  frame_out
  refine congrArg (fun z => k0_pay2 _ z (iblk m c 3 t)) ((read_scratch _ _ _).trans ?_)
  exact stores_hidden (ms0_1 t) (hs0_1 t) (iblk m c 0 t) (iblk m c 1 t) (iblk m c 2 t)

/-- A token block's LAST point. -/
theorem step_C (c : Dev nD) (t : Fin cfg0.N) (h0 : ¬t.val % 8 = 0) (h1 : t.val % 8 = 7) :
    outsAt0 m c t.val t.isLt
      = k0_pay3 (iblk m c 4 t)
          (k0_pay2 (outsAt0 m c (t.val - 1) (by omega)) (hidden (iblk m c 0 t) (iblk m c 1 t) (iblk m c 2 t)) (iblk m c 3 t)) (iblk m c 5 t) := by
  rw [outsAt0_C m c t h0 h1]
  frame_open
  simp (disch := decide) only [↓ View.readCov_skip, ↓ View.readCov_cons_toLoadRect, ↓ View.readCov_fill]
  frame_out
  refine congrArg (fun z => k0_pay3 _ (k0_pay2 _ z (iblk m c 3 t)) _) ((read_scratch _ _ _).trans ?_)
  exact stores_hidden (ms0_1 t) (hs0_1 t) (iblk m c 0 t) (iblk m c 1 t) (iblk m c 2 t)

end Cert.Proof
-- ==== Proof.Norm.lean ====
/- RMS NORMALISATION of a row of 1024 entries: the row over the root of its mean square, at one of its columns, by the weight there. Three
   of the layer's calls normalise rows this way. -/
module

public import Idealize.ShloMosaic.PureOps.Ideal

@[expose] public section

namespace Cert.Proof

open Idealize.ShloMosaic

/-- RMS normalisation of a row, at one of its columns, by the weight there. -/
noncomputable def normed (x : Fin 1024 → EReal) (w : EReal) (c : Fin 1024) : EReal :=
  x c * Ideal.rsqrt (Ideal.div (∑ k, x k * x k) (Ideal.ofBits .f32 0x44800000#32) + Ideal.ofBits .f32 0x358637BD#32) * w

end Cert.Proof
-- ==== Proof.Blocks.lean ====
/- THE MATHEMATICS OF THE CALL over whole arrays, and how a grid point's blocks sit in them. Point `t` is token block `t / 8` (1024 tokens)
   and expert block `t % 8` (2048 experts); a word of the gates' array is indexed by both blocks, a row of 64 tokens × 16 expert groups,
   and the expert inside its group of 128. -/
module

public import proofs.«01_k».proof.Proof.Step
public import proofs.«01_k».proof.Proof.Norm

@[expose] public section

set_option maxRecDepth 16384

namespace Cert.Proof

open Cert.KernelIdeal Cert.KernelIdeal.Gen
open Idealize.ShloMosaic Idealize.ShloMosaic.TcCoe
open Idealize.ShloMosaic.Pointwise

/-- The gate of token `r` and expert `e`, decoded from its word. -/
noncomputable def gate (W : Vec Ideal S16x8x8192x128 .i32) (r e : Fin 16384) : EReal :=
  half (F := Ideal) (W (ix4 ⟨r.val / 1024, by omega⟩ ⟨e.val / 2048, by omega⟩
    ⟨(64 * (r.val % 1024 / 128) + r.val % 64) * 16 + e.val % 2048 / 128, by omega⟩ ⟨e.val % 128, by omega⟩)) (r.val / 64 % 2)

/-- One expert's share of output column `c` for token `r`: its gated activation times its row of the second table. -/
noncomputable def share (N : Vec Ideal S16384x1024 .bf16) (W : Vec Ideal S16x8x8192x128 .i32) (U V : Vec Ideal S16384x1024 .bf16)
    (r : Fin 16384) (c : Fin 1024) (e : Fin 16384) : EReal :=
  gated (∑ k : Fin 1024, N (ix2 r k) * U (ix2 e k)) (gate W r e) * V (ix2 e c)

/-- THE CALL'S RESULT: the residual plus all experts' shares, normalised. -/
noncomputable def result (N : Vec Ideal S16384x1024 .bf16) (W : Vec Ideal S16x8x8192x128 .i32) (U V : Vec Ideal S16384x1024 .bf16)
    (H : Vec Ideal S16384x1024 .f32) (w : Vec Ideal S1024 .f32) : Vec Ideal S16384x1024 .f32 :=
  fun i => normed (fun k => H (ix2 (i 0) k) + ∑ e, share N W U V (i 0) k e) (w (ix1 (i 1))) (i 1)

variable (m : (ℓ : Loc nD τ sig) → Buf (Elt Ideal) ℓ)

/-- The index maps in closed form. -/
theorem idx_facts : ∀ t : Fin cfg0.N, win0_0.index t = ![t.val / 8, 0] ∧ win0_1.index t = ![t.val / 8, t.val % 8, 0, 0]
    ∧ win0_2.index t = ![t.val % 8, 0] ∧ win0_3.index t = ![t.val % 8, 0] ∧ win0_4.index t = ![t.val / 8, 0]
    ∧ win0_5.index t = ![0, 0] ∧ win0_6.index t = ![t.val / 8, 0] :=
  (by decide +kernel : ∀ t : Fin grid0.N, _)

/-- There are 128 grid points. -/
theorem point_lt (t : Fin cfg0.N) : t.val < 128 := t.isLt.trans_eq N_0

/-- Token `r` of point `t`'s token block. -/
def token (t : Fin cfg0.N) (r : Fin 1024) : Fin 16384 := ⟨1024 * (t.val / 8) + r.val, by have := point_lt t; omega⟩

/-- Expert `e` of point `t`'s expert block. -/
def expert (t : Fin cfg0.N) (e : Fin 2048) : Fin 16384 := ⟨2048 * (t.val % 8) + e.val, by omega⟩

theorem blk_n (c : Dev nD) (t : Fin cfg0.N) (r k : Fin 1024) :
    iblk m c 0 t (ix2 r k) = m ((c : Thread nD τ).loc main_arg0) (ix2 (token t r) k) := by
  obtain ⟨e, -⟩ := idx_facts t
  unfold token
  blk_ext [iblk, V, e]

theorem blk_w (c : Dev nD) (t : Fin cfg0.N) (q : Fin 8192) (l : Fin 128) :
    iblk m c 1 t (ix4 0 0 q l) = m ((c : Thread nD τ).loc main_arg1)
      (ix4 ⟨t.val / 8, by have := point_lt t; omega⟩ ⟨t.val % 8, by omega⟩ q l) := by
  obtain ⟨-, e, -⟩ := idx_facts t
  blk_ext [iblk, V, e]

theorem blk_u (c : Dev nD) (t : Fin cfg0.N) (e : Fin 2048) (k : Fin 1024) :
    iblk m c 2 t (ix2 e k) = m ((c : Thread nD τ).loc main_arg2) (ix2 (expert t e) k) := by
  obtain ⟨-, -, h, -⟩ := idx_facts t
  unfold expert
  blk_ext [iblk, V, h]

theorem blk_v (c : Dev nD) (t : Fin cfg0.N) (e : Fin 2048) (k : Fin 1024) :
    iblk m c 3 t (ix2 e k) = m ((c : Thread nD τ).loc main_arg3) (ix2 (expert t e) k) := by
  obtain ⟨-, -, -, h, -⟩ := idx_facts t
  unfold expert
  blk_ext [iblk, V, h]

theorem blk_h (c : Dev nD) (t : Fin cfg0.N) (r k : Fin 1024) :
    iblk m c 4 t (ix2 r k) = m ((c : Thread nD τ).loc main_arg4) (ix2 (token t r) k) := by
  obtain ⟨-, -, -, -, h, -⟩ := idx_facts t
  unfold token
  blk_ext [iblk, V, h]

theorem blk_norm (c : Dev nD) (t : Fin cfg0.N) (k : Fin 1024) :
    iblk m c 5 t (ix2 0 k) = m ((c : Thread nD τ).loc main_arg5) (ix1 k) := by
  obtain ⟨-, -, -, -, -, h, -⟩ := idx_facts t
  blk_ext! [iblk, V, h]

/-- A gate decoded from the point's block of words is the array's gate. -/
theorem gate_block (c : Dev nD) (t : Fin cfg0.N) (r : Fin 1024) (e : Fin 2048) :
    gateAt (iblk m c 1 t) r e = gate (m ((c : Thread nD τ).loc main_arg1)) (token t r) (expert t e) := by
  have ht := point_lt t
  unfold gateAt gate
  rw [blk_w]
  have h1 : ∀ h, (⟨(token t r).val / 1024, h⟩ : Fin 16) = ⟨t.val / 8, by omega⟩ := fun _ => Fin.ext (by simp only [token]; omega)
  have h2 : ∀ h, (⟨(expert t e).val / 2048, h⟩ : Fin 8) = ⟨t.val % 8, by omega⟩ := fun _ => Fin.ext (by simp only [expert]; omega)
  have h3 : ∀ h, (⟨(64 * ((token t r).val % 1024 / 128) + (token t r).val % 64) * 16 + (expert t e).val % 2048 / 128, h⟩ : Fin 8192)
      = ⟨(64 * (r.val / 128) + r.val % 64) * 16 + e.val / 128, by omega⟩ := fun _ => Fin.ext (by simp only [token, expert]; omega)
  have h4 : ∀ h, (⟨(expert t e).val % 128, h⟩ : Fin 128) = ⟨e.val % 128, by omega⟩ := fun _ => Fin.ext (by simp only [expert]; omega)
  have h5 : (token t r).val / 64 % 2 = r.val / 64 % 2 := by simp only [token]; omega
  rw [h1, h2, h3, h4, h5]

/-- A block's product, from where its rows of tokens and experts sit in the arrays. -/
theorem product_of (X0 : Vec Ideal S1024x1024 .bf16) (X1 : Vec Ideal S1x1x8192x128 .i32) (X2 X3 : Vec Ideal S2048x1024 .bf16)
    (N : Vec Ideal S16384x1024 .bf16) (W : Vec Ideal S16x8x8192x128 .i32) (U V : Vec Ideal S16384x1024 .bf16)
    (T : Fin 1024 → Fin 16384) (E : Fin 2048 → Fin 16384)
    (h0 : ∀ r k, X0 (ix2 r k) = N (ix2 (T r) k)) (h1 : ∀ r e, gateAt X1 r e = gate W (T r) (E e))
    (h2 : ∀ e k, X2 (ix2 e k) = U (ix2 (E e) k)) (h3 : ∀ e k, X3 (ix2 e k) = V (ix2 (E e) k)) (r k : Fin 1024) :
    ∑ e : Fin 2048, hidden X0 X1 X2 (ix2 r e) * X3 (ix2 e k) = ∑ e : Fin 2048, share N W U V (T r) k (E e) := by
  refine Finset.sum_congr rfl fun e _ => ?_
  show gated (∑ x : Fin 1024, X0 (ix2 r x) * X2 (ix2 e x)) (gateAt X1 r e) * X3 (ix2 e k) = _
  simp only [h0, h1, h2, h3]
  rfl

end Cert.Proof
-- ==== Proof.Acc.lean ====
/- THE OUTPUT BLOCK ACROSS A TOKEN BLOCK'S EIGHT POINTS: after point `8 b + s` it holds the shares of the experts of blocks `0 … s`; after
   the last, with the residual added and normalised, the call's result. The result array is its sixteen blocks. -/
module

public import proofs.«01_k».proof.Proof.Blocks

@[expose] public section

set_option maxRecDepth 16384

namespace Cert.Proof

open Cert.KernelIdeal Cert.KernelIdeal.Gen
open Idealize.ShloMosaic Idealize.ShloMosaic.TcCoe
open Idealize.ShloMosaic.Pointwise

theorem add_product_apply (acc : Vec Ideal S1024x1024 .f32) (h : Vec Ideal S1024x2048 .bf16) (v : Vec Ideal S2048x1024 .bf16) (r k : Fin 1024) :
    k0_pay2 acc h v (ix2 r k) = acc (ix2 r k) + ∑ e : Fin 2048, h (ix2 r e) * v (ix2 e k) := by
  pointwise [k0_pay2]

theorem zero_apply (r k : Fin 1024) : k0_pay4 (F := Ideal) (ix2 r k) = (0 : EReal) := by
  pointwise [k0_pay4]

theorem normalise_apply (h acc : Vec Ideal S1024x1024 .f32) (w : Vec Ideal S1x1024 .f32) (r k : Fin 1024) :
    k0_pay3 h acc w (ix2 r k) = normed (fun k => h (ix2 r k) + acc (ix2 r k)) (w (ix2 0 k)) k := by
  pointwise [k0_pay3]
  rfl

variable (m : (ℓ : Loc nD τ sig) → Buf (Elt Ideal) ℓ)

/-- Expert block `s`'s shares of column `k` for token `r` (nothing past the eighth block). -/
noncomputable def part (c : Dev nD) (r : Fin 16384) (k : Fin 1024) (s : ℕ) : EReal :=
  if hs : s < 8 then ∑ e : Fin 2048, share (m ((c : Thread nD τ).loc main_arg0)) (m ((c : Thread nD τ).loc main_arg1))
    (m ((c : Thread nD τ).loc main_arg2)) (m ((c : Thread nD τ).loc main_arg3)) r k ⟨s * 2048 + e.val, by omega⟩ else 0

/-- What a point adds is its expert block's part. -/
theorem point_product (c : Dev nD) (t : Fin cfg0.N) (acc : Vec Ideal S1024x1024 .f32) (r k : Fin 1024) :
    k0_pay2 acc (hidden (iblk m c 0 t) (iblk m c 1 t) (iblk m c 2 t)) (iblk m c 3 t) (ix2 r k)
      = acc (ix2 r k) + part m c (token t r) k (t.val % 8) := by
  rw [add_product_apply, product_of _ _ _ _ _ _ _ _ (token t) (expert t) (blk_n m c t) (gate_block m c t) (blk_u m c t) (blk_v m c t)]
  unfold part
  rw [dif_pos (by omega)]
  refine congrArg _ (Finset.sum_congr rfl fun e _ => congrArg _ (Fin.ext ?_))
  show 2048 * (t.val % 8) + e.val = t.val % 8 * 2048 + e.val
  omega

/-- All eight parts are the shares of all experts. -/
theorem parts_sum (c : Dev nD) (r : Fin 16384) (k : Fin 1024) :
    ∑ s ∈ Finset.range 8, part m c r k s = ∑ e, share (m ((c : Thread nD τ).loc main_arg0)) (m ((c : Thread nD τ).loc main_arg1))
      (m ((c : Thread nD τ).loc main_arg2)) (m ((c : Thread nD τ).loc main_arg3)) r k e := by
  rw [← Fin.sum_univ_eq_sum_range]
  refine (Finset.sum_congr rfl fun s _ => ?_).trans (Fin.sum_mul_add_fin (L := 16384) 8 2048 _ rfl)
  unfold part
  rw [dif_pos s.isLt]

/-- THE RUNNING SUM: before a token block's last point, the output block holds the parts so far. -/
theorem running (c : Dev nD) (b : Fin 16) : ∀ (s : ℕ) (hs : s < 7) (t : Fin cfg0.N), t.val = 8 * b.val + s → ∀ r k : Fin 1024,
    outsAt0 m c t.val t.isLt (ix2 r k) = ∑ j ∈ Finset.range (s + 1), part m c (token t r) k j
  | 0, _, t, ht, r, k => by
    have e : t.val % 8 = 0 := by omega
    rw [step_A m c t e (by omega), point_product, zero_apply, e, zero_add, Finset.sum_range_one]
  | s + 1, hs, t, ht, r, k => by
    have e : t.val % 8 = s + 1 := by omega
    have hp : t.val - 1 < cfg0.N := by have := t.isLt; omega
    have ih := running c b s (by omega) ⟨t.val - 1, hp⟩ (by show t.val - 1 = _; omega) r k
    have hk : token ⟨t.val - 1, hp⟩ r = token t r := Fin.ext (by simp only [token]; omega)
    rw [hk] at ih
    rw [step_B m c t (by omega) (by omega), point_product, e, Finset.sum_range_succ _ (s + 1)]
    exact congrArg (· + _) ih

/-- WHAT IS WRITTEN BACK: after a token block's last point the output block is the result's. -/
theorem written (c : Dev nD) (t : Fin cfg0.N) (ht : t.val % 8 = 7) (r k : Fin 1024) :
    outsAt0 m c t.val t.isLt (ix2 r k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix2 (token t r) k) := by
  have hN := point_lt t
  have hp : t.val - 1 < cfg0.N := by have := t.isLt; omega
  have hk : ∀ r, token ⟨t.val - 1, hp⟩ r = token t r := fun r => Fin.ext (by simp only [token]; omega)
  have ih : ∀ k, outsAt0 m c (t.val - 1) hp (ix2 r k) = ∑ j ∈ Finset.range 7, part m c (token t r) k j := fun k => by
    have := running m c ⟨t.val / 8, by omega⟩ 6 (by omega) ⟨t.val - 1, hp⟩ (by show t.val - 1 = 8 * (t.val / 8) + 6; omega) r k
    rw [hk] at this
    exact this
  rw [step_C m c t (by omega) ht, normalise_apply, blk_norm]
  unfold result
  refine congrArg (fun x => normed x _ k) (funext fun k => ?_)
  rw [blk_h, point_product, ih, ht, ← Finset.sum_range_succ, parts_sum]
  rfl

/-- THE RESULT ARRAY. -/
theorem final (c : Dev nD) : (dats m 0 c).arrAt 6 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  obtain ⟨-, -, -, -, -, -, e6⟩ := idx_facts t
  blk_simp
  rw [after0_6]
  idx_vars y
  refine (written m c t ((flush0_6 t).mp hf) y0 y1).trans (congrArg _ (funext fun a => Fin.ext ?_))
  match a with
  | 0 => blk_simp [e6]
         show 1024 * (t.val / 8) + y0.val = t.val / 8 * 1024 + y0.val
         omega
  | 1 => blk_simp [e6]

end Cert.Proof
-- ==== Proof.Ref.lean ====
/- WHAT THE REFERENCE COMPUTES, read in stages: the gates of every token and expert, the products with the first table, the gated
   activations, their product with the second table added to the residual, the normalisation. -/
module

public import proofs.«01_k».proof.Proof.Blocks
public import proofs.«01_k».proof.Proof.Gen.ReferenceIdeal.Run
public import Idealize.ShloMosaic.Lib.BitcastConvert
public import Idealize.ShloMosaic.Lib.Pointwise

@[expose] public section

set_option maxRecDepth 16384

namespace Cert.Proof.Host

open Cert.ReferenceIdeal Cert.ReferenceIdeal.Gen
open Idealize.ShloMosaic Idealize.ShloMosaic.TcCoe
open Idealize.ShloMosaic.Pointwise

/-- The decoded gates. -/
noncomputable def gates (W : Vec Ideal S16x8x8192x128 .i32) : FVec Ideal S16384x16384 .f32 :=
  shapeCast _ (transpose S16x8x2x64x8x16x128 [0, 2, 6, 3, 1, 4, 5] (shapeCast _ (extf .f32 (bitcastToFloat (F := Ideal) .bf16
    (Host.bitcastConvertNarrow S16x8x8192x128x2 16 W splits_S16x8x8192x128_w32_S16x8x8192x128x2_w16)) bitsLt_bf16_f32)
    shapeCasts_S16x8x8192x128x2_S16x8x8x64x16x128x2) transposes_S16x8x8x64x16x128x2_S16x8x2x64x8x16x128_0_2_6_3_1_4_5)
    shapeCasts_S16x8x2x64x8x16x128_S16384x16384

/-- The products with the first table. -/
noncomputable def acts (N U : FVec Ideal S16384x1024 .bf16) : FVec Ideal S16384x16384 .f32 :=
  Host.dotGeneral dot_S16384x1024_S1024x16384_S16384x16384_1_0_0_1_n_n none (extf .f32 N bitsLt_bf16_f32)
    (transpose S1024x16384 [1, 0] (extf .f32 U bitsLt_bf16_f32) transposes_S16384x1024_S1024x16384_1_0)

/-- The gated activations. -/
noncomputable def acted (a g : FVec Ideal S16384x16384 .f32) : FVec Ideal S16384x16384 .f32 :=
  mulf (mulf (mulf (broadcastInDim S16384x16384 ![] bcast_S_S16384x16384 (constant S_ .f32 0x3F000000#32)) a)
    (addf (broadcastInDim S16384x16384 ![] bcast_S_S16384x16384 (constant S_ .f32 0x3F800000#32))
      (Host.erf (Host.divf a (broadcastInDim S16384x16384 ![] bcast_S_S16384x16384 (Host.sqrt (constant S_ .f32 0x40000000#32))))))) g

/-- The residual plus the experts' output. -/
noncomputable def summed (h : FVec Ideal S16384x16384 .f32) (V : FVec Ideal S16384x1024 .bf16) (H : FVec Ideal S16384x1024 .f32) : FVec Ideal S16384x1024 .f32 :=
  addf H (Host.dotGeneral dot_S16384x16384_S16384x1024_S16384x1024_1_0_0_1_n_n none h (extf .f32 V bitsLt_bf16_f32))

/-- The normalisation. -/
noncomputable def normalised (x : FVec Ideal S16384x1024 .f32) (w : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

theorem normalised_apply (x : FVec Ideal S16384x1024 .f32) (w : FVec Ideal S1024 .f32) (r : Fin 16384) (k : Fin 1024) :
    normalised x w (ix2 r k) = normed (fun k => x (ix2 r k)) (w (ix1 k)) k := by
  pointwise [normalised]
  rfl

theorem summed_apply (h : FVec Ideal S16384x16384 .f32) (V : FVec Ideal S16384x1024 .bf16) (H : FVec Ideal S16384x1024 .f32) (r : Fin 16384) (k : Fin 1024) :
    summed h V H (ix2 r k) = H (ix2 r k) + ∑ e : Fin 16384, h (ix2 r e) * V (ix2 e k) := by
  pointwise [summed]

theorem acts_apply (N U : FVec Ideal S16384x1024 .bf16) (r e : Fin 16384) : acts N U (ix2 r e) = ∑ k : Fin 1024, N (ix2 r k) * U (ix2 e k) := by
  pointwise [acts]

theorem ofBits_two : Ideal.ofBits .f32 0x40000000#32 = ((2 : ℝ) : EReal) := by
  simp [Ideal.ofBits, Ideal.ieee, -EReal.coe_mul]; norm_num

theorem ofBits_half : Ideal.ofBits .f32 0x3F000000#32 = Ideal.ofBits .bf16 0x3F00#16 := by
  simp [Ideal.ofBits, Ideal.ieee, -EReal.coe_mul]; norm_num

/-- Dividing by the root of two multiplies by its inverse, at every extended real. -/
theorem div_sqrt_two (a : EReal) : Ideal.div a (Ideal.sqrt (Ideal.ofBits .f32 0x40000000#32)) = a * (((Real.sqrt 2)⁻¹ : ℝ) : EReal) := by
  rw [ofBits_two, Ideal.sqrt_coe, if_neg (by norm_num), Ideal.div_coe (by positivity), one_div]

theorem acted_apply (a g : FVec Ideal S16384x16384 .f32) (r e : Fin 16384) : acted a g (ix2 r e) = gated (a (ix2 r e)) (g (ix2 r e)) := by
  pointwise [acted]
  rw [div_sqrt_two, ofBits_half]
  rfl

theorem gates_apply (W : Vec Ideal S16x8x8192x128 .i32) (r e : Fin 16384) : gates W (ix2 r e) = gate W r e := by
  pointwise [gates]
  unfold gate half
  refine congrArg (fun b : BitVec 32 => Ideal.ofBits .bf16 (b.extractLsb' (r.val / 64 % 2 * 16) 16)) (congrArg W (funext fun a => Fin.ext ?_))
  match a with
  | 0 => rfl
  | 1 => rfl
  | 2 => show r.val / 128 % 8 * 1024 + r.val % 64 * 16 + e.val / 128 % 16 = (64 * (r.val % 1024 / 128) + r.val % 64) * 16 + e.val % 2048 / 128
         omega
  | 3 => rfl

/-- The reference's result is the stages in turn. -/
theorem ref_stages (m : (ℓ : Loc nD τ sig) → Buf (Elt Ideal) ℓ) (c : Dev nD) : Cert.ReferenceIdeal.Value.res_main_v34 m c
    = normalised (summed (acted (acts (m ((c.tc : Thread nD τ).loc main_arg0)) (m ((c.tc : Thread nD τ).loc main_arg2))) (gates (m ((c.tc : Thread nD τ).loc main_arg1))))
        (m ((c.tc : Thread nD τ).loc main_arg3)) (m ((c.tc : Thread nD τ).loc main_arg4))) (m ((c.tc : Thread nD τ).loc main_arg5)) := by
  unfold normalised summed acted acts gates
  rfl

/-- THE REFERENCE'S RESULT is the call's. -/
theorem ref_result (m : (ℓ : Loc nD τ sig) → Buf (Elt Ideal) ℓ) (c : Dev nD) : Cert.ReferenceIdeal.Value.res_main_v34 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [ref_stages]
  funext i
  idx_vars i
  rw [normalised_apply]
  refine congrArg (fun x => normed x _ i1) (funext fun k => ?_)
  rw [summed_apply]
  simp only [acted_apply, acts_apply, gates_apply]
  rfl

end Cert.Proof.Host
-- ==== Proof.ProjBlocks.lean ====
/- THE PROJECTIONS OF THE NORMALISED INPUT, over whole arrays, and how a grid point's blocks sit in them. Point `t` is the tokens
   `1024 t … 1024 t + 1023`; the weight's columns are laid out in slabs, one per result, the two narrow ones widened to 128 by zeros. -/
module

public import proofs.«01_k».proof.Proof.Norm
public import proofs.«01_k».proof.Proof.Gen.InProjIdeal.Frame
public import proofs.«01_k».proof.Proof.Gen.InProjIdeal.Value
public import Idealize.ShloMosaic.Lib.Pipeline.ValueKit
public import Idealize.ShloMosaic.Lib.Pointwise
public import Idealize.ShloMosaic.Lib.StableHlo.Run

@[expose] public section

set_option maxRecDepth 16384

namespace Cert.Proof.Proj

open Cert.InProjIdeal Cert.InProjIdeal.Gen
open Idealize.ShloMosaic Idealize.ShloMosaic.TcCoe
open Idealize.ShloMosaic.Pointwise

/-- Token `r`'s row, normalised, against column `j` of the weight. -/
noncomputable def proj (x : Vec Ideal S2x8192x1024 .f32) (w : Vec Ideal S1x1024 .f32) (W : Vec Ideal S1x1024x2840 .f32)
    (r : Fin 16384) (j : Fin 2840) : EReal :=
  ∑ k : Fin 1024, normed (fun k => x (ix3 ⟨r.val / 8192, by omega⟩ ⟨r.val % 8192, by omega⟩ k)) (w (ix2 0 k)) k * W (ix3 0 k j)

variable (m : (ℓ : Loc nD τ sig) → Buf (Elt Ideal) ℓ)

/-- The index maps in closed form. -/
theorem idx_in : ∀ t : Fin cfg0.N, win0_0.index t = ![t.val, 0] ∧ win0_1.index t = ![0, 0] ∧ win0_2.index t = ![0, 0] :=
  (by decide +kernel : ∀ t : Fin grid0.N, _)

/-- There are 16 grid points. -/
theorem point_lt (t : Fin cfg0.N) : t.val < 16 := t.isLt.trans_eq N_0

/-- Token `r` of point `t`'s block. -/
def token (t : Fin cfg0.N) (r : Fin 1024) : Fin 16384 := ⟨1024 * t.val + r.val, by have := point_lt t; omega⟩

/-- The entry the narrow slabs are widened by: the integer zero, converted. -/
noncomputable def fill : EReal := FloatOps.sitofp (F := Ideal) .f32 (0#32 : BitVec 32)

theorem fill_eq : fill = 0 := by
  show ((((0#32 : BitVec 32).toInt : ℤ) : ℝ) : EReal) = 0
  simp

/-- The slabs side by side as one matrix: the weight's columns regrouped, result by result. -/
noncomputable def slabs (W : Vec Ideal S1x1024x2840 .f32) (k : Fin 1024) (j : Fin 3072) : EReal :=
  if h : j.val < 256 then W (ix3 0 k ⟨j.val, by omega⟩)
  else if h : j.val - 256 < 256 then W (ix3 0 k ⟨256 + (j.val - 256), by omega⟩)
  else if h : j.val - 256 - 256 < 512 then W (ix3 0 k ⟨512 + (j.val - 256 - 256), by omega⟩)
  else if h : j.val - 256 - 256 - 512 < 512 then W (ix3 0 k ⟨1040 + (j.val - 256 - 256 - 512), by omega⟩)
  else if h : j.val - 256 - 256 - 512 - 512 < 512 then W (ix3 0 k ⟨1552 + (j.val - 256 - 256 - 512 - 512), by omega⟩)
  else if h : j.val - 256 - 256 - 512 - 512 - 512 < 768 then W (ix3 0 k ⟨2064 + (j.val - 256 - 256 - 512 - 512 - 512), by omega⟩)
  else if h : j.val - 256 - 256 - 512 - 512 - 512 - 768 < 128 then
    if h : j.val - 256 - 256 - 512 - 512 - 512 - 768 < 16 then W (ix3 0 k ⟨1024 + (j.val - 256 - 256 - 512 - 512 - 512 - 768), by omega⟩) else fill
  else if h : j.val - 256 - 256 - 512 - 512 - 512 - 768 - 128 < 8 then W (ix3 0 k ⟨2832 + (j.val - 256 - 256 - 512 - 512 - 512 - 768 - 128), by omega⟩)
  else fill

theorem V_slabs (c : Dev nD) (k : Fin 1024) (j : Fin 3072) :
    V m c main_v15 (ix2 k j) = slabs (m ((c : Thread nD τ).loc main_arg2)) k j := by
  show StableHlo.after _ _ _ _ = _
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp
  pointwise
  after_results_simp
  pointwise
  rfl

theorem V_x (c : Dev nD) (i : S16384x1024.Idx) : V m c main_v0 i = m ((c : Thread nD τ).loc main_arg0) (ix3 ⟨(i 0).val / 8192, by have : (i 0).val < 16384 := (i 0).isLt; omega⟩ ⟨(i 0).val % 8192, by omega⟩ (i 1)) := by
  show StableHlo.after _ _ _ _ = _
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp
  idx_vars i
  pointwise

theorem V_w (c : Dev nD) (k : Fin 1024) : V m c main_v2 (ix2 0 k) = m ((c : Thread nD τ).loc main_arg1) (ix2 0 k) := by
  show StableHlo.after _ _ _ _ = _
  simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
  after_results_simp
  pointwise

theorem blk_x (c : Dev nD) (t : Fin cfg0.N) (r k : Fin 1024) :
    iblk m c 0 t (ix2 r k) = V m c main_v0 (ix2 (token t r) k) := by
  obtain ⟨e, -⟩ := idx_in t
  unfold token
  blk_ext [iblk, e]

theorem blk_w (c : Dev nD) (t : Fin cfg0.N) (k : Fin 1024) : iblk m c 1 t (ix2 0 k) = V m c main_v2 (ix2 0 k) := by
  obtain ⟨-, e, -⟩ := idx_in t
  blk_ext [iblk, e]

theorem blk_slabs (c : Dev nD) (t : Fin cfg0.N) (k : Fin 1024) (j : Fin 3072) : iblk m c 2 t (ix2 k j) = V m c main_v15 (ix2 k j) := by
  obtain ⟨-, -, e⟩ := idx_in t
  blk_ext [iblk, e]

theorem normed_apply (x : Vec Ideal S1024x1024 .f32) (w : Vec Ideal S1x1024 .f32) (r k : Fin 1024) :
    k0_pay6 x w (ix2 r k) = normed (fun k => x (ix2 r k)) (w (ix2 0 k)) k := by
  pointwise [k0_pay6]
  rfl

/-- One block's row against column `j` of the slabs. -/
noncomputable def blockProj (x : Vec Ideal S1024x1024 .f32) (w : Vec Ideal S1x1024 .f32) (s : Vec Ideal S1024x3072 .bf16) (r : Fin 1024)
    (j : Fin 3072) : EReal :=
  ∑ k : Fin 1024, normed (fun k => x (ix2 r k)) (w (ix2 0 k)) k * s (ix2 k j)

theorem zeros : (![0, 0] : Fin 2 → Nat) = fun _ => 0 := by decide

theorem out_q (x : Vec Ideal S1024x1024 .f32) (w : Vec Ideal S1x1024 .f32) (s : Vec Ideal S1024x3072 .bf16) (r : Fin 1024) (j : Fin 256) :
    out0_3 x w s (ix2 r j) = blockProj x w s r ⟨j.val, by omega⟩ := by
  unfold out0_3 k0_pay7
  rw [View.canon_unit_zero zeros, View.ld_unit_zero zeros, View.ld_unit_zero zeros]
  pointwise [normed_apply]
  rfl

theorem out_k (x : Vec Ideal S1024x1024 .f32) (w : Vec Ideal S1x1024 .f32) (s : Vec Ideal S1024x3072 .bf16) (r : Fin 1024) (j : Fin 256) :
    out0_4 x w s (ix2 r j) = blockProj x w s r ⟨256 + j.val, by omega⟩ := by
  unfold out0_4 k0_pay8
  rw [View.canon_unit_zero zeros, View.ld_unit_zero zeros, View.ld_unit_zero zeros]
  pointwise [normed_apply]
  rfl

theorem out_v (x : Vec Ideal S1024x1024 .f32) (w : Vec Ideal S1x1024 .f32) (s : Vec Ideal S1024x3072 .bf16) (r : Fin 1024) (j : Fin 512) :
    out0_5 x w s (ix2 r j) = blockProj x w s r ⟨512 + j.val, by omega⟩ := by
  unfold out0_5 k0_pay9
  rw [View.canon_unit_zero zeros, View.ld_unit_zero zeros, View.ld_unit_zero zeros]
  pointwise [normed_apply]
  rfl

theorem out_gate (x : Vec Ideal S1024x1024 .f32) (w : Vec Ideal S1x1024 .f32) (s : Vec Ideal S1024x3072 .bf16) (r : Fin 1024) (j : Fin 512) :
    out0_6 x w s (ix2 r j) = blockProj x w s r ⟨1024 + j.val, by omega⟩ := by
  unfold out0_6 k0_pay1 k0_pay10 k0_pay11
  rw [View.canon_unit_zero zeros, View.ld_unit_zero zeros, View.ld_unit_zero zeros]
  pointwise [normed_apply]
  rfl

theorem out_z (x : Vec Ideal S1024x1024 .f32) (w : Vec Ideal S1x1024 .f32) (s : Vec Ideal S1024x3072 .bf16) (r : Fin 1024) (j : Fin 512) :
    out0_7 x w s (ix2 r j) = blockProj x w s r ⟨1536 + j.val, by omega⟩ := by
  unfold out0_7 k0_pay2 k0_pay11
  rw [View.canon_unit_zero zeros, View.ld_unit_zero zeros, View.ld_unit_zero zeros]
  pointwise [normed_apply]
  rfl

theorem out_conv (x : Vec Ideal S1024x1024 .f32) (w : Vec Ideal S1x1024 .f32) (s : Vec Ideal S1024x3072 .bf16) (r : Fin 1024) (j : Fin 768) :
    out0_8 x w s (ix2 r j) = blockProj x w s r ⟨2048 + j.val, by omega⟩ := by
  unfold out0_8 k0_pay3 k0_pay11
  rw [View.canon_unit_zero zeros, View.ld_unit_zero zeros, View.ld_unit_zero zeros]
  pointwise [normed_apply]
  rfl

theorem out_rank (x : Vec Ideal S1024x1024 .f32) (w : Vec Ideal S1x1024 .f32) (s : Vec Ideal S1024x3072 .bf16) (r : Fin 1024) (j : Fin 128) :
    out0_9 x w s (ix2 r j) = blockProj x w s r ⟨2816 + j.val, by omega⟩ := by
  unfold out0_9 k0_pay4 k0_pay11
  rw [View.canon_unit_zero zeros, View.ld_unit_zero zeros, View.ld_unit_zero zeros]
  pointwise [normed_apply]
  rfl

theorem out_step (x : Vec Ideal S1024x1024 .f32) (w : Vec Ideal S1x1024 .f32) (s : Vec Ideal S1024x3072 .bf16) (r : Fin 1024) (j : Fin 128) :
    out0_10 x w s (ix2 r j) = blockProj x w s r ⟨2944 + j.val, by omega⟩ := by
  unfold out0_10 k0_pay5 k0_pay11
  rw [View.canon_unit_zero zeros, View.ld_unit_zero zeros, View.ld_unit_zero zeros]
  pointwise [normed_apply]
  rfl

end Cert.Proof.Proj
-- ==== Proof.ProjFinal.lean ====
/- THE RESULT ARRAYS of the projections' call: each is the normalised tokens against its slab's columns, that is against its columns of the
   weight, zeros in the columns the two narrow slabs are widened by. -/
module

public import proofs.«01_k».proof.Proof.ProjBlocks

@[expose] public section

set_option maxRecDepth 16384

namespace Cert.Proof.Proj

open Cert.InProjIdeal Cert.InProjIdeal.Gen
open Idealize.ShloMosaic Idealize.ShloMosaic.TcCoe
open Idealize.ShloMosaic.Pointwise

/-- Token `r`'s row, normalised, against column `j` of the slabs. -/
noncomputable def slabProj (x : Vec Ideal S2x8192x1024 .f32) (w : Vec Ideal S1x1024 .f32) (W : Vec Ideal S1x1024x2840 .f32)
    (r : Fin 16384) (j : Fin 3072) : EReal :=
  ∑ k : Fin 1024, normed (fun k => x (ix3 ⟨r.val / 8192, by omega⟩ ⟨r.val % 8192, by omega⟩ k)) (w (ix2 0 k)) k * slabs W k j

/-- A slab's column that is column `i` of the weight. -/
theorem slabProj_of (x : Vec Ideal S2x8192x1024 .f32) (w : Vec Ideal S1x1024 .f32) (W : Vec Ideal S1x1024x2840 .f32)
    (r : Fin 16384) (j : Fin 3072) (i : Fin 2840) (h : ∀ k, slabs W k j = W (ix3 0 k i)) : slabProj x w W r j = proj x w W r i := by
  unfold slabProj proj
  simp only [h]

/-- A slab's column of zeros. -/
theorem slabProj_zero (x : Vec Ideal S2x8192x1024 .f32) (w : Vec Ideal S1x1024 .f32) (W : Vec Ideal S1x1024x2840 .f32)
    (r : Fin 16384) (j : Fin 3072) (h : ∀ k, slabs W k j = 0) : slabProj x w W r j = 0 := by
  unfold slabProj
  simp only [h, mul_zero, Finset.sum_const_zero]

/-- The slab that lies at `o` in the slabs, its columns those from `s` in the weight. -/
def At (W : Vec Ideal S1x1024x2840 .f32) (o s j : ℕ) : Prop := ∀ (ho : o + j < 3072) (hs : s + j < 2840) (k : Fin 1024),
  slabs W k ⟨o + j, ho⟩ = W (ix3 0 k ⟨s + j, hs⟩)

theorem at_of (W : Vec Ideal S1x1024x2840 .f32) (o s j : ℕ) (h : (o = s ∧ o + j < 1024) ∨ (s = o + 16 ∧ 1024 ≤ o ∧ o + j < 2816)
    ∨ (o = 2816 ∧ s = 1024 ∧ j < 16) ∨ (o = 2944 ∧ s = 2832 ∧ j < 8)) : At W o s j := by
  intro ho hs k
  have e : ∀ (a b : ℕ) (ha : a < 2840) (hb : b < 2840), a = b → W (ix3 0 k ⟨a, ha⟩) = W (ix3 0 k ⟨b, hb⟩) := by
    intro a b ha hb h
    subst h
    rfl
  unfold slabs
  simp only []
  split_ifs <;> first
    | omega
    | (apply e; omega)

theorem fill_at (W : Vec Ideal S1x1024x2840 .f32) (k : Fin 1024) (j : Fin 3072) (h : (2832 ≤ j.val ∧ j.val < 2944) ∨ 2952 ≤ j.val) :
    slabs W k j = 0 := by
  unfold slabs
  split_ifs <;> first
    | omega
    | exact fill_eq

/-- A block's projection, from where its rows sit in the arrays. -/
theorem blockProj_of (X : Vec Ideal S1024x1024 .f32) (v : Vec Ideal S1x1024 .f32) (s : Vec Ideal S1024x3072 .bf16)
    (x : Vec Ideal S2x8192x1024 .f32) (w : Vec Ideal S1x1024 .f32) (W : Vec Ideal S1x1024x2840 .f32) (r : Fin 1024) (T : Fin 16384)
    (hx : ∀ k, X (ix2 r k) = x (ix3 ⟨T.val / 8192, by omega⟩ ⟨T.val % 8192, by omega⟩ k)) (hw : ∀ k, v (ix2 0 k) = w (ix2 0 k))
    (hs : ∀ k j, s (ix2 k j) = slabs W k j) (j : Fin 3072) : blockProj X v s r j = slabProj x w W T j := by
  unfold blockProj slabProj
  simp only [hx, hw, hs]

theorem slabProj_congr (x : Vec Ideal S2x8192x1024 .f32) (w : Vec Ideal S1x1024 .f32) (W : Vec Ideal S1x1024x2840 .f32)
    {r r' : Fin 16384} {j j' : Fin 3072} (hr : r.val = r'.val) (hj : j.val = j'.val) : slabProj x w W r j = slabProj x w W r' j' := by
  rw [Fin.ext hr, Fin.ext hj]

/-- A slab of `n` columns from `o`, over all tokens. -/
noncomputable def slab (n o : ℕ) (h : o + n ≤ 3072) (x : Vec Ideal S2x8192x1024 .f32) (w : Vec Ideal S1x1024 .f32) (W : Vec Ideal S1x1024x2840 .f32)
    (r : Fin 16384) (j : Fin n) : EReal :=
  slabProj x w W r ⟨o + j.val, by omega⟩

variable (m : (ℓ : Loc nD τ sig) → Buf (Elt Ideal) ℓ)

/-- What a point computes, in the arrays' terms. -/
theorem point_proj (c : Dev nD) (t : Fin cfg0.N) (r : Fin 1024) (j : Fin 3072) :
    blockProj (iblk m c 0 t) (iblk m c 1 t) (iblk m c 2 t) r j = slabProj (m ((c : Thread nD τ).loc main_arg0))
      (m ((c : Thread nD τ).loc main_arg1)) (m ((c : Thread nD τ).loc main_arg2)) (token t r) j :=
  blockProj_of _ _ _ _ _ _ r (token t r) (fun k => (blk_x m c t r k).trans (V_x m c _)) (fun k => (blk_w m c t k).trans (V_w m c k))
    (fun k j => (blk_slabs m c t k j).trans (V_slabs m c k j)) j

/-- The outputs' index maps in closed form. -/
theorem idx_out : ∀ t : Fin cfg0.N, win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0]
    ∧ win0_10.index t = ![t.val, 0] :=
  (by decide +kernel : ∀ t : Fin grid0.N, _)

theorem final_q (c : Dev nD) : (dats m 0 c).arrAt 3 cfg0.N = fun i : S16384x256.Idx => slab 256 0 (by decide) (m ((c : Thread nD τ).loc main_arg0))
    (m ((c : Thread nD τ).loc main_arg1)) (m ((c : Thread nD τ).loc main_arg2)) (i 0) (i 1) := by
  refine (dats m 0 c).arrAt_eq_of_covers 3 _ (by decide +kernel) fun t _ y => ?_
  obtain ⟨e, -⟩ := idx_out t
  blk_simp
  rw [after0_3]
  idx_vars y
  rw [out_q, point_proj]
  exact slabProj_congr _ _ _ (by blk_simp [e]; show 1024 * t.val + y0.val = t.val * 1024 + y0.val; omega)
    (by blk_simp [e])

theorem final_k (c : Dev nD) : (dats m 0 c).arrAt 4 cfg0.N = fun i : S16384x256.Idx => slab 256 256 (by decide) (m ((c : Thread nD τ).loc main_arg0))
    (m ((c : Thread nD τ).loc main_arg1)) (m ((c : Thread nD τ).loc main_arg2)) (i 0) (i 1) := by
  refine (dats m 0 c).arrAt_eq_of_covers 4 _ (by decide +kernel) fun t _ y => ?_
  obtain ⟨-, e, -⟩ := idx_out t
  blk_simp
  rw [after0_4]
  idx_vars y
  rw [out_k, point_proj]
  exact slabProj_congr _ _ _ (by blk_simp [e]; show 1024 * t.val + y0.val = t.val * 1024 + y0.val; omega)
    (by blk_simp [e])

theorem final_v (c : Dev nD) : (dats m 0 c).arrAt 5 cfg0.N = fun i : S16384x512.Idx => slab 512 512 (by decide) (m ((c : Thread nD τ).loc main_arg0))
    (m ((c : Thread nD τ).loc main_arg1)) (m ((c : Thread nD τ).loc main_arg2)) (i 0) (i 1) := by
  refine (dats m 0 c).arrAt_eq_of_covers 5 _ (by decide +kernel) fun t _ y => ?_
  obtain ⟨-, -, e, -⟩ := idx_out t
  blk_simp
  rw [after0_5]
  idx_vars y
  rw [out_v, point_proj]
  exact slabProj_congr _ _ _ (by blk_simp [e]; show 1024 * t.val + y0.val = t.val * 1024 + y0.val; omega)
    (by blk_simp [e])

theorem final_gate (c : Dev nD) : (dats m 0 c).arrAt 6 cfg0.N = fun i : S16384x512.Idx => slab 512 1024 (by decide) (m ((c : Thread nD τ).loc main_arg0))
    (m ((c : Thread nD τ).loc main_arg1)) (m ((c : Thread nD τ).loc main_arg2)) (i 0) (i 1) := by
  refine (dats m 0 c).arrAt_eq_of_covers 6 _ (by decide +kernel) fun t _ y => ?_
  obtain ⟨-, -, -, e, -⟩ := idx_out t
  blk_simp
  rw [after0_6]
  idx_vars y
  rw [out_gate, point_proj]
  exact slabProj_congr _ _ _ (by blk_simp [e]; show 1024 * t.val + y0.val = t.val * 1024 + y0.val; omega)
    (by blk_simp [e])

theorem final_z (c : Dev nD) : (dats m 0 c).arrAt 7 cfg0.N = fun i : S16384x512.Idx => slab 512 1536 (by decide) (m ((c : Thread nD τ).loc main_arg0))
    (m ((c : Thread nD τ).loc main_arg1)) (m ((c : Thread nD τ).loc main_arg2)) (i 0) (i 1) := by
  refine (dats m 0 c).arrAt_eq_of_covers 7 _ (by decide +kernel) fun t _ y => ?_
  obtain ⟨-, -, -, -, e, -⟩ := idx_out t
  blk_simp
  rw [after0_7]
  idx_vars y
  rw [out_z, point_proj]
  exact slabProj_congr _ _ _ (by blk_simp [e]; show 1024 * t.val + y0.val = t.val * 1024 + y0.val; omega)
    (by blk_simp [e])

theorem final_conv (c : Dev nD) : (dats m 0 c).arrAt 8 cfg0.N = fun i : S16384x768.Idx => slab 768 2048 (by decide) (m ((c : Thread nD τ).loc main_arg0))
    (m ((c : Thread nD τ).loc main_arg1)) (m ((c : Thread nD τ).loc main_arg2)) (i 0) (i 1) := by
  refine (dats m 0 c).arrAt_eq_of_covers 8 _ (by decide +kernel) fun t _ y => ?_
  obtain ⟨-, -, -, -, -, e, -⟩ := idx_out t
  blk_simp
  rw [after0_8]
  idx_vars y
  rw [out_conv, point_proj]
  exact slabProj_congr _ _ _ (by blk_simp [e]; show 1024 * t.val + y0.val = t.val * 1024 + y0.val; omega)
    (by blk_simp [e])

theorem final_rank (c : Dev nD) : (dats m 0 c).arrAt 9 cfg0.N = fun i : S16384x128.Idx => slab 128 2816 (by decide) (m ((c : Thread nD τ).loc main_arg0))
    (m ((c : Thread nD τ).loc main_arg1)) (m ((c : Thread nD τ).loc main_arg2)) (i 0) (i 1) := by
  refine (dats m 0 c).arrAt_eq_of_covers 9 _ (by decide +kernel) fun t _ y => ?_
  obtain ⟨-, -, -, -, -, -, e, -⟩ := idx_out t
  blk_simp
  rw [after0_9]
  idx_vars y
  rw [out_rank, point_proj]
  exact slabProj_congr _ _ _ (by blk_simp [e]; show 1024 * t.val + y0.val = t.val * 1024 + y0.val; omega)
    (by blk_simp [e])

theorem final_step (c : Dev nD) : (dats m 0 c).arrAt 10 cfg0.N = fun i : S16384x128.Idx => slab 128 2944 (by decide) (m ((c : Thread nD τ).loc main_arg0))
    (m ((c : Thread nD τ).loc main_arg1)) (m ((c : Thread nD τ).loc main_arg2)) (i 0) (i 1) := by
  refine (dats m 0 c).arrAt_eq_of_covers 10 _ (by decide +kernel) fun t _ y => ?_
  obtain ⟨-, -, -, -, -, -, -, e⟩ := idx_out t
  blk_simp
  rw [after0_10]
  idx_vars y
  rw [out_step, point_proj]
  exact slabProj_congr _ _ _ (by blk_simp [e]; show 1024 * t.val + y0.val = t.val * 1024 + y0.val; omega)
    (by blk_simp [e])

end Cert.Proof.Proj
-- ==== Proof.ProjRef.lean ====
/- WHAT THE PROJECTIONS' REFERENCE COMPUTES: the tokens normalised, their product with the weight, and its columns cut into the results, the
   two narrow ones padded with zeros to 128 columns. Each is the slab that the call computes. -/
module

public import proofs.«01_k».proof.Proof.ProjFinal
public import proofs.«01_k».proof.Proof.Gen.InProjReferenceIdeal.Run

@[expose] public section

set_option maxRecDepth 16384

namespace Cert.Proof.Proj.Host

open Cert.InProjReferenceIdeal Cert.InProjReferenceIdeal.Gen
open Idealize.ShloMosaic Idealize.ShloMosaic.TcCoe
open Idealize.ShloMosaic.Pointwise

/-- The normalised tokens. -/
noncomputable def tokens (x : FVec Ideal S2x8192x1024 .f32) (w : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ w shapeCasts_S1x1024_S1024)))

/-- All tokens against the whole weight. -/
noncomputable def dense (x : FVec Ideal S2x8192x1024 .f32) (w : FVec Ideal S1x1024 .f32) (W : FVec Ideal S1x1024x2840 .f32) : FVec Ideal S16384x2840 .f32 :=
  Host.dotGeneral dot_S16384x1024_S1024x2840_S16384x2840_1_0_0_1_n_n none (shapeCast _ (tokens x w) shapeCasts_S2x8192x1024_S16384x1024)
    (shapeCast _ W shapeCasts_S1x1024x2840_S1024x2840)

theorem tokens_apply (x : FVec Ideal S2x8192x1024 .f32) (w : FVec Ideal S1x1024 .f32) (b : Fin 2) (r : Fin 8192) (k : Fin 1024) :
    tokens x w (ix3 b r k) = normed (fun k => x (ix3 b r k)) (w (ix2 0 k)) k := by
  pointwise [tokens]
  rfl

theorem dense_apply (x : FVec Ideal S2x8192x1024 .f32) (w : FVec Ideal S1x1024 .f32) (W : FVec Ideal S1x1024x2840 .f32) (r : Fin 16384) (j : Fin 2840) :
    dense x w W (ix2 r j) = proj x w W r j := by
  pointwise [dense, tokens_apply]
  rfl

variable (x : FVec Ideal S2x8192x1024 .f32) (w : FVec Ideal S1x1024 .f32) (W : FVec Ideal S1x1024x2840 .f32)

/-- A column of the product, in the slab it belongs to. -/
theorem dense_slab (r : Fin 16384) (n o s : ℕ) (h : o + n ≤ 3072) (j : Fin n) (hs : s + j.val < 2840) (ha : At W o s j.val) :
    dense x w W (ix2 r ⟨s + j.val, hs⟩) = slab n o h x w W r j := by
  rw [dense_apply]
  exact (slabProj_of x w W r _ _ fun k => ha (by omega) hs k).symm

theorem ref_q : extractStridedSlice S16384x256 ![0, 0] (dense x w W) slices_S16384x2840_S16384x256_0_0
    = fun i : S16384x256.Idx => slab 256 0 (by decide) x w W (i 0) (i 1) := by
  funext i
  idx_vars i
  refine Eq.trans ?_ (dense_slab x w W i0 256 0 0 (by decide) i1 (by omega) (at_of W _ _ _ (by omega)))
  pointwise

theorem ref_k : extractStridedSlice S16384x256 ![0, 256] (dense x w W) slices_S16384x2840_S16384x256_0_256
    = fun i : S16384x256.Idx => slab 256 256 (by decide) x w W (i 0) (i 1) := by
  funext i
  idx_vars i
  refine Eq.trans ?_ (dense_slab x w W i0 256 256 256 (by decide) i1 (by omega) (at_of W _ _ _ (by omega)))
  pointwise

theorem ref_v : extractStridedSlice S16384x512 ![0, 512] (dense x w W) slices_S16384x2840_S16384x512_0_512
    = fun i : S16384x512.Idx => slab 512 512 (by decide) x w W (i 0) (i 1) := by
  funext i
  idx_vars i
  refine Eq.trans ?_ (dense_slab x w W i0 512 512 512 (by decide) i1 (by omega) (at_of W _ _ _ (by omega)))
  pointwise

theorem ref_gate : extractStridedSlice S16384x512 ![0, 1040] (dense x w W) slices_S16384x2840_S16384x512_0_1040
    = fun i : S16384x512.Idx => slab 512 1024 (by decide) x w W (i 0) (i 1) := by
  funext i
  idx_vars i
  refine Eq.trans ?_ (dense_slab x w W i0 512 1024 1040 (by decide) i1 (by omega) (at_of W _ _ _ (by omega)))
  pointwise

theorem ref_z : extractStridedSlice S16384x512 ![0, 1552] (dense x w W) slices_S16384x2840_S16384x512_0_1552
    = fun i : S16384x512.Idx => slab 512 1536 (by decide) x w W (i 0) (i 1) := by
  funext i
  idx_vars i
  refine Eq.trans ?_ (dense_slab x w W i0 512 1536 1552 (by decide) i1 (by omega) (at_of W _ _ _ (by omega)))
  pointwise

theorem ref_conv : extractStridedSlice S16384x768 ![0, 2064] (dense x w W) slices_S16384x2840_S16384x768_0_2064
    = fun i : S16384x768.Idx => slab 768 2048 (by decide) x w W (i 0) (i 1) := by
  funext i
  idx_vars i
  refine Eq.trans ?_ (dense_slab x w W i0 768 2048 2064 (by decide) i1 (by omega) (at_of W _ _ _ (by omega)))
  pointwise

theorem ref_rank : pad S16384x128 ![0, 0] ![0, 112] ![0, 0] (extractStridedSlice S16384x16 ![0, 1024] (dense x w W) slices_S16384x2840_S16384x16_0_1024)
    (sitofp .f32 (constantI S_ 32 0#32)) pads_S16384x16_S16384x128_000_01120 h_S_
    = fun i : S16384x128.Idx => slab 128 2816 (by decide) x w W (i 0) (i 1) := by
  funext i
  idx_vars i
  pointwise
  split
  · next h => exact dense_slab x w W i0 128 2816 1024 (by decide) i1 (by omega) (at_of W _ _ _ (by omega))
  · next h => exact fill_eq.trans (slabProj_zero x w W i0 _ fun k => fill_at W k _ (by simp only []; omega)).symm

theorem ref_step : pad S16384x128 ![0, 0] ![0, 120] ![0, 0] (extractStridedSlice S16384x8 ![0, 2832] (dense x w W) slices_S16384x2840_S16384x8_0_2832)
    (sitofp .f32 (constantI S_ 32 0#32)) pads_S16384x8_S16384x128_000_01200 h_S_
    = fun i : S16384x128.Idx => slab 128 2944 (by decide) x w W (i 0) (i 1) := by
  funext i
  idx_vars i
  pointwise
  split
  · next h => exact dense_slab x w W i0 128 2944 2832 (by decide) i1 (by omega) (at_of W _ _ _ (by omega))
  · next h => exact fill_eq.trans (slabProj_zero x w W i0 _ fun k => fill_at W k _ (by simp only []; omega)).symm

end Cert.Proof.Proj.Host
-- ==== Proof.MixStep.lean ====
/- WHAT ONE GRID POINT of the output-and-query call leaves in its three blocks: the residual plus the two attentions' outputs against their
   halves of the weight; its rows normalised; and, for each of the sixteen sub-key tables, the table against the queries' lanes, the
   queries read back from the scratch. -/
module

public import proofs.«01_k».proof.Proof.Norm
public import proofs.«01_k».proof.Proof.Gen.OutQueryIdeal.Value
public import Idealize.ShloMosaic.Lib.Pipeline.ValueKit
public import Idealize.ShloMosaic.Lib.Pipeline.ReadBack
public import Idealize.ShloMosaic.Lib.Pointwise

@[expose] public section

set_option maxRecDepth 16384

namespace Cert.Proof.Mix

open Cert.OutQueryIdeal Cert.OutQueryIdeal.Gen
open Idealize.ShloMosaic Idealize.ShloMosaic.TcCoe
open Idealize.ShloMosaic.Pointwise

/-- The residual plus the attentions' outputs, at one entry of the block. -/
noncomputable def mixed (X0 X1 : Vec Ideal S512x512 .bf16) (X2 : Vec Ideal S512x1024 .f32) (X3 : Vec Ideal S1024x1024 .bf16)
    (r : Fin 512) (k : Fin 1024) : EReal :=
  X2 (ix2 r k) + (∑ j : Fin 512, X0 (ix2 r j) * X3 (ix2 ⟨j.val, by omega⟩ k) + ∑ j : Fin 512, X1 (ix2 r j) * X3 (ix2 ⟨512 + j.val, by omega⟩ k))

/-- The upper half of the weight. -/
noncomputable def upper (X3 : Vec Ideal S1024x1024 .bf16) : Vec Ideal S512x1024 .bf16 :=
  View.ld X3 (Rect.unit (s := S1024x1024) ![0, 0] ![512, 1024] inb_S1024x1024_S512x1024_0_0)

/-- The lower half. -/
noncomputable def lower (X3 : Vec Ideal S1024x1024 .bf16) : Vec Ideal S512x1024 .bf16 :=
  View.ld X3 (Rect.unit (s := S1024x1024) ![512, 0] ![512, 1024] inb_S1024x1024_S512x1024_512_0)

theorem mixed_apply (X0 X1 : Vec Ideal S512x512 .bf16) (X2 : Vec Ideal S512x1024 .f32) (X3 : Vec Ideal S1024x1024 .bf16)
    (r : Fin 512) (k : Fin 1024) : k0_pay4 X0 (upper X3) X1 (lower X3) X2 (ix2 r k) = mixed X0 X1 X2 X3 r k := by
  pointwise [k0_pay4, upper, lower]
  unfold mixed
  rfl

theorem normed_apply (X0 X1 : Vec Ideal S512x512 .bf16) (U L : Vec Ideal S512x1024 .bf16) (X2 : Vec Ideal S512x1024 .f32) (w : Vec Ideal S1x1024 .f32)
    (r : Fin 512) (k : Fin 1024) :
    k0_pay5 X0 U X1 L X2 w (ix2 r k) = normed (fun k => k0_pay4 X0 U X1 L X2 (ix2 r k)) (w (ix2 0 k)) k := by
  pointwise [k0_pay5]
  rfl

theorem query_apply (X0 X1 : Vec Ideal S512x512 .bf16) (U L : Vec Ideal S512x1024 .bf16) (X2 : Vec Ideal S512x1024 .f32) (w : Vec Ideal S1x1024 .f32)
    (Wq : Vec Ideal S1024x2048 .bf16) (r : Fin 512) (j : Fin 2048) :
    k0_pay7 (k0_pay6 X0 U X1 L X2 w Wq) (ix2 r j) = ∑ k : Fin 1024, k0_pay5 X0 U X1 L X2 w (ix2 r k) * Wq (ix2 k j) := by
  pointwise [k0_pay7, k0_pay6]

theorem table_inb (p : Fin 16) : ∀ a, (![p.val, 0, 0] : Fin 3 → ℕ) a + (![1, 128, 128] : Fin 3 → ℕ) a ≤ S16x128x128.size a := by
  revert p; decide

theorem lanes_inb (p : Fin 16) : ∀ a, (![0, 128 * p.val] : Fin 2 → ℕ) a + (![512, 128] : Fin 2 → ℕ) a ≤ S512x2048.size a := by
  revert p; decide

/-- What the body stores for table `p`: the table against its lanes of the queries. -/
noncomputable def scored (X6 : Vec Ideal S16x128x128 .bf16) (Q : Vec Ideal S512x2048 .bf16) (p : Fin 16) : FVec Ideal S1x128x512 .f32 :=
  k0_pay8 (View.ld X6 (Rect.unit (s := S16x128x128) ![p.val, 0, 0] ![1, 128, 128] (table_inb p)))
    (View.ld Q (Rect.unit (s := S512x2048) ![0, 128 * p.val] ![512, 128] (lanes_inb p)))

/-- The scores of all tables. -/
noncomputable def scores (X6 : Vec Ideal S16x128x128 .bf16) (Q : Vec Ideal S512x2048 .bf16) : Vec Ideal S16x128x512 .f32 := fun i =>
  ∑ d : Fin 128, X6 (ix3 (i 0) (i 1) d) * Q (ix2 (i 2) ⟨128 * (i 0).val + d.val, by have : (i 0).val < 16 := (i 0).isLt; omega⟩)

theorem scored_apply (X6 : Vec Ideal S16x128x128 .bf16) (Q : Vec Ideal S512x2048 .bf16) (p : Fin 16) (k : Fin 128) (r : Fin 512) :
    scored X6 Q p (ix3 0 k r) = scores X6 Q (ix3 p k r) := by
  pointwise [scored, k0_pay8]
  unfold scores
  rfl

/-- The sixteen stores together leave the scores. -/
theorem stores_scores (X6 : Vec Ideal S16x128x128 .bf16) (Q : Vec Ideal S512x2048 .bf16) :
    View.canon (Val := Elt Ideal) (s := S16x128x512) (e := .f32)
      [⟨Rect.unit (s := S16x128x512) ![15, 0, 0] ![1, 128, 512] inb_S16x128x512_S1x128x512_15_0_0, scored X6 Q 15⟩,
       ⟨Rect.unit (s := S16x128x512) ![14, 0, 0] ![1, 128, 512] inb_S16x128x512_S1x128x512_14_0_0, scored X6 Q 14⟩,
       ⟨Rect.unit (s := S16x128x512) ![13, 0, 0] ![1, 128, 512] inb_S16x128x512_S1x128x512_13_0_0, scored X6 Q 13⟩,
       ⟨Rect.unit (s := S16x128x512) ![12, 0, 0] ![1, 128, 512] inb_S16x128x512_S1x128x512_12_0_0, scored X6 Q 12⟩,
       ⟨Rect.unit (s := S16x128x512) ![11, 0, 0] ![1, 128, 512] inb_S16x128x512_S1x128x512_11_0_0, scored X6 Q 11⟩,
       ⟨Rect.unit (s := S16x128x512) ![10, 0, 0] ![1, 128, 512] inb_S16x128x512_S1x128x512_10_0_0, scored X6 Q 10⟩,
       ⟨Rect.unit (s := S16x128x512) ![9, 0, 0] ![1, 128, 512] inb_S16x128x512_S1x128x512_9_0_0, scored X6 Q 9⟩,
       ⟨Rect.unit (s := S16x128x512) ![8, 0, 0] ![1, 128, 512] inb_S16x128x512_S1x128x512_8_0_0, scored X6 Q 8⟩,
       ⟨Rect.unit (s := S16x128x512) ![7, 0, 0] ![1, 128, 512] inb_S16x128x512_S1x128x512_7_0_0, scored X6 Q 7⟩,
       ⟨Rect.unit (s := S16x128x512) ![6, 0, 0] ![1, 128, 512] inb_S16x128x512_S1x128x512_6_0_0, scored X6 Q 6⟩,
       ⟨Rect.unit (s := S16x128x512) ![5, 0, 0] ![1, 128, 512] inb_S16x128x512_S1x128x512_5_0_0, scored X6 Q 5⟩,
       ⟨Rect.unit (s := S16x128x512) ![4, 0, 0] ![1, 128, 512] inb_S16x128x512_S1x128x512_4_0_0, scored X6 Q 4⟩,
       ⟨Rect.unit (s := S16x128x512) ![3, 0, 0] ![1, 128, 512] inb_S16x128x512_S1x128x512_3_0_0, scored X6 Q 3⟩,
       ⟨Rect.unit (s := S16x128x512) ![2, 0, 0] ![1, 128, 512] inb_S16x128x512_S1x128x512_2_0_0, scored X6 Q 2⟩,
       ⟨Rect.unit (s := S16x128x512) ![1, 0, 0] ![1, 128, 512] inb_S16x128x512_S1x128x512_1_0_0, scored X6 Q 1⟩,
       ⟨Rect.unit (s := S16x128x512) ![0, 0, 0] ![1, 128, 512] inb_S16x128x512_S1x128x512_0_0_0, scored X6 Q 0⟩]
      = scores X6 Q := by
  have key : ∀ (p : Fin 16) (x : S1x128x512.Idx) (y : S16x128x512.Idx), (y 0).val = p.val + (x 0).val → (y 1).val = (x 1).val → (y 2).val = (x 2).val →
      scored X6 Q p x = scores X6 Q y := by
    intro p x y h0 h1 h2
    have hy : y = ix3 p (x 1) (x 2) := by
      funext a
      have : (x 0).val < 1 := (x 0).isLt
      fin_cases a
      · exact Fin.ext (by simpa using (show (y 0).val = p.val by omega))
      · exact Fin.ext h1
      · exact Fin.ext h2
    have hx : x = ix3 0 (x 1) (x 2) := by
      funext a
      have : (x 0).val < 1 := (x 0).isLt
      fin_cases a
      · exact Fin.ext (show (x 0).val = 0 by omega)
      · rfl
      · rfl
    rw [hx, hy]
    exact scored_apply X6 Q p _ _
  funext y
  canon_tiles x h
  exacts [key 15 x y h0 h1 h2, key 14 x y h0 h1 h2, key 13 x y h0 h1 h2, key 12 x y h0 h1 h2, key 11 x y h0 h1 h2, key 10 x y h0 h1 h2, key 9 x y h0 h1 h2, key 8 x y h0 h1 h2, key 7 x y h0 h1 h2, key 6 x y h0 h1 h2, key 5 x y h0 h1 h2, key 4 x y h0 h1 h2, key 3 x y h0 h1 h2, key 2 x y h0 h1 h2, key 1 x y h0 h1 h2, key 0 x y (by rw [h0]; exact (Nat.zero_add _).symm) h1 h2]

variable (m : (ℓ : Loc nD τ sig) → Buf (Elt Ideal) ℓ)

theorem step_h (c : Dev nD) (t : Fin cfg0.N) :
    (outsAt0 m c t).1 = k0_pay4 (iblk m c 0 t) (upper (iblk m c 3 t)) (iblk m c 1 t) (lower (iblk m c 3 t)) (iblk m c 2 t) := by
  unfold outsAt0
  frame_open
  frame_out
  rfl

theorem step_n (c : Dev nD) (t : Fin cfg0.N) :
    (outsAt0 m c t).2.1 = k0_pay5 (iblk m c 0 t) (upper (iblk m c 3 t)) (iblk m c 1 t) (lower (iblk m c 3 t)) (iblk m c 2 t) (iblk m c 4 t) := by
  unfold outsAt0
  frame_open
  frame_out
  rfl

/-- The queries of a point's block. -/
noncomputable def queries (c : Dev nD) (t : Fin cfg0.N) : Vec Ideal S512x2048 .bf16 :=
  k0_pay7 (k0_pay6 (iblk m c 0 t) (upper (iblk m c 3 t)) (iblk m c 1 t) (lower (iblk m c 3 t)) (iblk m c 2 t) (iblk m c 4 t) (iblk m c 5 t))

theorem step_s (c : Dev nD) (t : Fin cfg0.N) : (outsAt0 m c t).2.2 = scores (iblk m c 6 t) (queries m c t) := by
  unfold outsAt0
  frame_open
  simp (disch := decide) only [↓ View.readCov_skip, ↓ View.readCov_cons_toLoadRect, ↓ View.readCov_fill]
  frame_out
  exact stores_scores (iblk m c 6 t) (queries m c t)

end Cert.Proof.Mix
-- ==== Proof.MixFinal.lean ====
/- THE RESULT ARRAYS of the call that mixes the attentions' outputs in: the residual, its normalisation, and the sixteen tables' scores of the
   queries, over whole arrays, and how a grid point's blocks sit in them. Point `t` is the tokens `512 t … 512 t + 511`. -/
module

public import proofs.«01_k».proof.Proof.MixStep
public import Idealize.ShloMosaic.Lib.StableHlo.Run

@[expose] public section

set_option maxRecDepth 16384

namespace Cert.Proof.Mix

open Cert.OutQueryIdeal Cert.OutQueryIdeal.Gen
open Idealize.ShloMosaic Idealize.ShloMosaic.TcCoe
open Idealize.ShloMosaic.Pointwise

/-- The residual at token `r`: the input plus both attentions' outputs against the weight. -/
noncomputable def resid (A B : Vec Ideal S16384x512 .bf16) (x : Vec Ideal S2x8192x1024 .f32) (W : Vec Ideal S1x1024x1024 .f32)
    (r : Fin 16384) (k : Fin 1024) : EReal :=
  x (ix3 ⟨r.val / 8192, by omega⟩ ⟨r.val % 8192, by omega⟩ k)
    + (∑ j : Fin 512, A (ix2 r j) * W (ix3 0 ⟨j.val, by omega⟩ k) + ∑ j : Fin 512, B (ix2 r j) * W (ix3 0 ⟨512 + j.val, by omega⟩ k))

/-- The residual, normalised. -/
noncomputable def state (A B : Vec Ideal S16384x512 .bf16) (x : Vec Ideal S2x8192x1024 .f32) (W : Vec Ideal S1x1024x1024 .f32)
    (w : Vec Ideal S1x1024 .f32) (r : Fin 16384) (k : Fin 1024) : EReal :=
  normed (resid A B x W r) (w (ix2 0 k)) k

/-- Token `r`'s queries. -/
noncomputable def query (A B : Vec Ideal S16384x512 .bf16) (x : Vec Ideal S2x8192x1024 .f32) (W : Vec Ideal S1x1024x1024 .f32)
    (w : Vec Ideal S1x1024 .f32) (Q : Vec Ideal S1x1024x2048 .f32) (r : Fin 16384) (j : Fin 2048) : EReal :=
  ∑ k : Fin 1024, state A B x W w r k * Q (ix3 0 k j)

/-- Table `p`'s key against its lanes of token `r`'s queries. -/
noncomputable def score (A B : Vec Ideal S16384x512 .bf16) (x : Vec Ideal S2x8192x1024 .f32) (W : Vec Ideal S1x1024x1024 .f32)
    (w : Vec Ideal S1x1024 .f32) (Q : Vec Ideal S1x1024x2048 .f32) (K : Vec Ideal S1x8x2x128x128 .f32)
    (p : Fin 16) (key : Fin 128) (r : Fin 16384) : EReal :=
  ∑ d : Fin 128, K (ix5 0 ⟨p.val / 2, by omega⟩ ⟨p.val % 2, by omega⟩ key d) * query A B x W w Q r ⟨128 * p.val + d.val, by omega⟩

variable (m : (ℓ : Loc nD τ sig) → Buf (Elt Ideal) ℓ)

/-- The index maps in closed form. -/
theorem idx_in : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0] :=
  (by decide +kernel : ∀ t : Fin grid0.N, _)

theorem idx_out : ∀ t : Fin cfg0.N, win0_7.index t = ![t.val, 0] ∧ win0_8.index t = ![t.val, 0] ∧ win0_9.index t = ![0, 0, t.val] :=
  (by decide +kernel : ∀ t : Fin grid0.N, _)

/-- There are 32 grid points. -/
theorem point_lt (t : Fin cfg0.N) : t.val < 32 := t.isLt.trans_eq N_0

/-- Token `r` of point `t`'s block. -/
def token (t : Fin cfg0.N) (r : Fin 512) : Fin 16384 := ⟨512 * t.val + r.val, by have := point_lt t; omega⟩

theorem V_x (c : Dev nD) (r : Fin 16384) (k : Fin 1024) : V m c main_v0 (ix2 r k)
    = m ((c : Thread nD τ).loc main_arg2) (ix3 ⟨r.val / 8192, by omega⟩ ⟨r.val % 8192, by omega⟩ k) := by
  show StableHlo.after _ _ _ _ = _
  simp only [hostOps0, StableHlo.TRef.unary, StableHlo.TRef.toBuf, StableHlo.TRef.ofBuf, cast_eq]
  after_results_simp
  pointwise

theorem V_W (c : Dev nD) (j k : Fin 1024) : V m c main_v5 (ix2 j k) = m ((c : Thread nD τ).loc main_arg3) (ix3 0 j k) := by
  show StableHlo.after _ _ _ _ = _
  simp only [hostOps0, StableHlo.TRef.unary, StableHlo.TRef.toBuf, StableHlo.TRef.ofBuf, cast_eq]
  after_results_simp
  pointwise

theorem V_w (c : Dev nD) (k : Fin 1024) : V m c main_v7 (ix2 0 k) = m ((c : Thread nD τ).loc main_arg4) (ix2 0 k) := by
  show StableHlo.after _ _ _ _ = _
  simp only [hostOps0, StableHlo.TRef.unary, StableHlo.TRef.toBuf, StableHlo.TRef.ofBuf, cast_eq]
  after_results_simp
  pointwise

theorem V_Q (c : Dev nD) (k : Fin 1024) (j : Fin 2048) : V m c main_v9 (ix2 k j) = m ((c : Thread nD τ).loc main_arg5) (ix3 0 k j) := by
  show StableHlo.after _ _ _ _ = _
  simp only [hostOps0, StableHlo.TRef.unary, StableHlo.TRef.toBuf, StableHlo.TRef.ofBuf, cast_eq]
  after_results_simp
  pointwise

theorem V_K (c : Dev nD) (p : Fin 16) (a d : Fin 128) : V m c main_v3 (ix3 p a d)
    = m ((c : Thread nD τ).loc main_arg6) (ix5 0 ⟨p.val / 2, by omega⟩ ⟨p.val % 2, by omega⟩ a d) := by
  show StableHlo.after _ _ _ _ = _
  simp only [hostOps0, StableHlo.TRef.unary, StableHlo.TRef.toBuf, StableHlo.TRef.ofBuf, cast_eq]
  after_results_simp
  pointwise

theorem V_A (c : Dev nD) (i : S16384x512.Idx) : V m c main_arg0 i = m ((c : Thread nD τ).loc main_arg0) i := by
  show StableHlo.after _ _ _ _ = _
  simp only [hostOps0, StableHlo.TRef.unary, StableHlo.TRef.toBuf, StableHlo.TRef.ofBuf, cast_eq]
  after_results_simp

theorem V_B (c : Dev nD) (i : S16384x512.Idx) : V m c main_arg1 i = m ((c : Thread nD τ).loc main_arg1) i := by
  show StableHlo.after _ _ _ _ = _
  simp only [hostOps0, StableHlo.TRef.unary, StableHlo.TRef.toBuf, StableHlo.TRef.ofBuf, cast_eq]
  after_results_simp

theorem blk_A (c : Dev nD) (t : Fin cfg0.N) (r j : Fin 512) : iblk m c 0 t (ix2 r j) = V m c main_arg0 (ix2 (token t r) j) := by
  obtain ⟨e, -⟩ := idx_in t
  unfold token
  blk_ext [iblk, e]

theorem blk_B (c : Dev nD) (t : Fin cfg0.N) (r j : Fin 512) : iblk m c 1 t (ix2 r j) = V m c main_arg1 (ix2 (token t r) j) := by
  obtain ⟨-, e, -⟩ := idx_in t
  unfold token
  blk_ext [iblk, e]

theorem blk_x (c : Dev nD) (t : Fin cfg0.N) (r : Fin 512) (k : Fin 1024) : iblk m c 2 t (ix2 r k) = V m c main_v0 (ix2 (token t r) k) := by
  obtain ⟨-, -, e, -⟩ := idx_in t
  unfold token
  blk_ext [iblk, e]

theorem blk_W (c : Dev nD) (t : Fin cfg0.N) (j k : Fin 1024) : iblk m c 3 t (ix2 j k) = V m c main_v5 (ix2 j k) := by
  obtain ⟨-, -, -, e, -⟩ := idx_in t
  blk_ext [iblk, e]

theorem blk_w (c : Dev nD) (t : Fin cfg0.N) (k : Fin 1024) : iblk m c 4 t (ix2 0 k) = V m c main_v7 (ix2 0 k) := by
  obtain ⟨-, -, -, -, e, -⟩ := idx_in t
  blk_ext [iblk, e]

theorem blk_Q (c : Dev nD) (t : Fin cfg0.N) (k : Fin 1024) (j : Fin 2048) : iblk m c 5 t (ix2 k j) = V m c main_v9 (ix2 k j) := by
  obtain ⟨-, -, -, -, -, e, -⟩ := idx_in t
  blk_ext [iblk, e]

theorem blk_K (c : Dev nD) (t : Fin cfg0.N) (p : Fin 16) (a d : Fin 128) : iblk m c 6 t (ix3 p a d) = V m c main_v3 (ix3 p a d) := by
  obtain ⟨-, -, -, -, -, -, e⟩ := idx_in t
  blk_ext [iblk, e]

/-- A block's residual, from where its rows sit in the arrays. -/
theorem mixed_of (X0 X1 : Vec Ideal S512x512 .bf16) (X2 : Vec Ideal S512x1024 .f32) (X3 : Vec Ideal S1024x1024 .bf16)
    (A B : Vec Ideal S16384x512 .bf16) (x : Vec Ideal S2x8192x1024 .f32) (W : Vec Ideal S1x1024x1024 .f32) (r : Fin 512) (T : Fin 16384)
    (h0 : ∀ j, X0 (ix2 r j) = A (ix2 T j)) (h1 : ∀ j, X1 (ix2 r j) = B (ix2 T j))
    (h2 : ∀ k, X2 (ix2 r k) = x (ix3 ⟨T.val / 8192, by omega⟩ ⟨T.val % 8192, by omega⟩ k)) (h3 : ∀ j k, X3 (ix2 j k) = W (ix3 0 j k))
    (k : Fin 1024) : mixed X0 X1 X2 X3 r k = resid A B x W T k := by
  unfold mixed resid
  simp only [h0, h1, h2, h3]

theorem point_resid (c : Dev nD) (t : Fin cfg0.N) (r : Fin 512) (k : Fin 1024) :
    k0_pay4 (iblk m c 0 t) (upper (iblk m c 3 t)) (iblk m c 1 t) (lower (iblk m c 3 t)) (iblk m c 2 t) (ix2 r k)
      = resid (m ((c : Thread nD τ).loc main_arg0)) (m ((c : Thread nD τ).loc main_arg1)) (m ((c : Thread nD τ).loc main_arg2))
        (m ((c : Thread nD τ).loc main_arg3)) (token t r) k :=
  (mixed_apply _ _ _ _ r k).trans (mixed_of _ _ _ _ _ _ _ _ r (token t r)
    (fun j => (blk_A m c t r j).trans (V_A m c _)) (fun j => (blk_B m c t r j).trans (V_B m c _))
    (fun k => (blk_x m c t r k).trans (V_x m c _ k)) (fun j k => (blk_W m c t j k).trans (V_W m c j k)) k)

theorem point_state (c : Dev nD) (t : Fin cfg0.N) (r : Fin 512) (k : Fin 1024) :
    k0_pay5 (iblk m c 0 t) (upper (iblk m c 3 t)) (iblk m c 1 t) (lower (iblk m c 3 t)) (iblk m c 2 t) (iblk m c 4 t) (ix2 r k)
      = state (m ((c : Thread nD τ).loc main_arg0)) (m ((c : Thread nD τ).loc main_arg1)) (m ((c : Thread nD τ).loc main_arg2))
        (m ((c : Thread nD τ).loc main_arg3)) (m ((c : Thread nD τ).loc main_arg4)) (token t r) k := by
  refine (normed_apply _ _ _ _ _ _ r k).trans ?_
  unfold state
  rw [funext (point_resid m c t r), (blk_w m c t k).trans (V_w m c k)]

theorem sum_congr_mul {n : ℕ} {a a' b b' : Fin n → EReal} (ha : ∀ k, a k = a' k) (hb : ∀ k, b k = b' k) :
    ∑ k, a k * b k = ∑ k, a' k * b' k := by
  rw [funext ha, funext hb]

theorem point_query (c : Dev nD) (t : Fin cfg0.N) (r : Fin 512) (j : Fin 2048) :
    queries m c t (ix2 r j)
      = query (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (token t r) j :=
  (query_apply _ _ _ _ _ _ _ r j).trans
    (sum_congr_mul (fun k => point_state m c t r k) fun k => (blk_Q m c t k j).trans (V_Q m c k j))

theorem point_score (c : Dev nD) (t : Fin cfg0.N) (p : Fin 16) (a : Fin 128) (r : Fin 512) :
    scores (iblk m c 6 t) (queries m c t) (ix3 p a r)
      = score (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) p a (token t r) :=
  sum_congr_mul (fun d => (blk_K m c t p a d).trans (V_K m c p a d)) fun d => point_query m c t r _

theorem final_h (c : Dev nD) : (dats m 0 c).arrAt 7 cfg0.N = fun i : S16384x1024.Idx =>
    resid (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 7 _ (by decide +kernel) fun t _ y => ?_
  obtain ⟨e, -⟩ := idx_out t
  blk_simp
  rw [after0_7, step_h]
  idx_vars y
  rw [point_resid]
  exact congrArg₂ (resid _ _ _ _) (Fin.ext (by blk_simp [e]; show 512 * t.val + y0.val = t.val * 512 + y0.val; omega))
    (Fin.ext (by blk_simp [e]))

theorem final_n (c : Dev nD) : (dats m 0 c).arrAt 8 cfg0.N = fun i : S16384x1024.Idx =>
    state (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 8 _ (by decide +kernel) fun t _ y => ?_
  obtain ⟨-, e, -⟩ := idx_out t
  blk_simp
  rw [after0_8, step_n]
  idx_vars y
  rw [point_state]
  exact congrArg₂ (state _ _ _ _ _) (Fin.ext (by blk_simp [e]; show 512 * t.val + y0.val = t.val * 512 + y0.val; omega))
    (Fin.ext (by blk_simp [e]))

theorem final_s (c : Dev nD) : (dats m 0 c).arrAt 9 cfg0.N = fun i : S16x128x16384.Idx =>
    score (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) (i 2) := by
  refine (dats m 0 c).arrAt_eq_of_covers 9 _ (by decide +kernel) fun t _ y => ?_
  obtain ⟨-, -, e⟩ := idx_out t
  blk_simp
  rw [after0_9, step_s]
  idx_vars y
  rw [point_score]
  exact congr (congrArg₂ (score _ _ _ _ _ _ _) (Fin.ext (by blk_simp [e])) (Fin.ext (by blk_simp [e])))
    (Fin.ext (by blk_simp [e]; show 512 * t.val + y2.val = t.val * 512 + y2.val; omega))

end Cert.Proof.Mix
-- ==== Proof.MixRef.lean ====
/- WHAT THE REFERENCE OF THE CALL THAT MIXES THE ATTENTIONS' OUTPUTS IN COMPUTES: the attentions' outputs side by side against the weight, plus
   the input; its normalisation; the queries; and each table's scores. -/
module

public import proofs.«01_k».proof.Proof.MixFinal
public import proofs.«01_k».proof.Proof.Gen.OutQueryReferenceIdeal.Run

@[expose] public section

set_option maxRecDepth 16384

namespace Cert.Proof.Mix.Host

open Cert.OutQueryReferenceIdeal Cert.OutQueryReferenceIdeal.Gen
open Idealize.ShloMosaic Idealize.ShloMosaic.TcCoe
open Idealize.ShloMosaic.Pointwise

variable (A B : FVec Ideal S16384x512 .bf16) (x : FVec Ideal S2x8192x1024 .f32) (W : FVec Ideal S1x1024x1024 .f32)
  (w : FVec Ideal S1x1024 .f32) (Q : FVec Ideal S1x1024x2048 .f32) (K : FVec Ideal S1x8x2x128x128 .f32)

/-- The attentions' outputs side by side. -/
noncomputable def pair : FVec Ideal S16384x1024 .f32 :=
  concatenate S16384x1024 1 [⟨S16384x512, (extf .f32 A bitsLt_bf16_f32)⟩, ⟨S16384x512, (extf .f32 B bitsLt_bf16_f32)⟩] concatenates_S16384x512_S16384x512_S16384x1024_d1

/-- The residual. -/
noncomputable def sum : FVec Ideal S16384x1024 .f32 :=
  addf (shapeCast _ x shapeCasts_S2x8192x1024_S16384x1024) (Host.dotGeneral dot_S16384x1024_S1024x1024_S16384x1024_1_0_0_1_n_n none (pair A B)
    (shapeCast _ W shapeCasts_S1x1024x1024_S1024x1024))

/-- A residual's normalisation. -/
noncomputable def norm (h : FVec Ideal S16384x1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ w shapeCasts_S1x1024_S1024)))

/-- The tables' scores of the queries of the normalised residuals `n`. -/
noncomputable def table (n : FVec Ideal S16384x1024 .f32) : FVec Ideal S16x128x16384 .f32 :=
  shapeCast _ (Host.dotGeneral dot_S8x2x128x128_S16384x8x2x128_S8x2x128x16384_3_3_2_0_01_12 none (shapeCast _ K shapeCasts_S1x8x2x128x128_S8x2x128x128)
    (shapeCast _ (Host.dotGeneral dot_S16384x1024_S1024x2048_S16384x2048_1_0_0_1_n_n none n (shapeCast _ Q shapeCasts_S1x1024x2048_S1024x2048)) shapeCasts_S16384x2048_S16384x8x2x128)) shapeCasts_S8x2x128x16384_S16x128x16384

theorem pair_low (r : Fin 16384) (j : Fin 512) : pair A B (ix2 r ⟨j.val, by omega⟩) = A (ix2 r j) := by
  pointwise [pair]

theorem pair_high (r : Fin 16384) (j : Fin 512) : pair A B (ix2 r ⟨512 + j.val, by omega⟩) = B (ix2 r j) := by
  pointwise [pair]

theorem sum_apply (r : Fin 16384) (k : Fin 1024) : sum A B x W (ix2 r k) = resid A B x W r k := by
  unfold resid
  pointwise [sum]
  refine congrArg (_ + ·) ((Fin.sum_univ_add (a := 512) (b := 512) _).trans ?_)
  exact congrArg₂ (· + ·) (Finset.sum_congr rfl fun j _ => congrArg (· * _) (pair_low A B r j))
    (Finset.sum_congr rfl fun j _ => congrArg (· * _) (pair_high A B r j))

theorem norm_apply (h : FVec Ideal S16384x1024 .f32) (r : Fin 16384) (k : Fin 1024) :
    norm w h (ix2 r k) = normed (fun k => h (ix2 r k)) (w (ix2 0 k)) k := by
  pointwise [norm]
  rfl

theorem state_apply (r : Fin 16384) (k : Fin 1024) : norm w (sum A B x W) (ix2 r k) = state A B x W w r k := by
  rw [norm_apply, funext (sum_apply A B x W r)]
  rfl

theorem table_apply (n : FVec Ideal S16384x1024 .f32) (p : Fin 16) (a : Fin 128) (r : Fin 16384) :
    table Q K n (ix3 p a r) = ∑ d : Fin 128, K (ix5 0 ⟨p.val / 2, by omega⟩ ⟨p.val % 2, by omega⟩ a d)
      * ∑ k : Fin 1024, n (ix2 r k) * Q (ix3 0 k ⟨128 * p.val + d.val, by omega⟩) := by
  pointwise [table]
  have e : ∀ d : Fin 128, (⟨p.val / 2 * 256 + p.val % 2 * 128 + d.val, by omega⟩ : Fin 2048) = ⟨128 * p.val + d.val, by omega⟩ :=
    fun d => Fin.ext (show p.val / 2 * 256 + p.val % 2 * 128 + d.val = 128 * p.val + d.val by omega)
  simp only [e]

theorem ref_h : sum A B x W = fun i : S16384x1024.Idx => resid A B x W (i 0) (i 1) := by
  funext i
  idx_vars i
  exact sum_apply A B x W i0 i1

theorem ref_n : truncf .bf16 (norm w (sum A B x W)) bitsLt_bf16_f32 = fun i : S16384x1024.Idx => state A B x W w (i 0) (i 1) := by
  funext i
  idx_vars i
  exact state_apply A B x W w i0 i1

theorem ref_s : table Q K (norm w (sum A B x W)) = fun i : S16x128x16384.Idx => score A B x W w Q K (i 0) (i 1) (i 2) := by
  funext i
  idx_vars i
  rw [table_apply]
  refine sum_congr_mul (fun d => rfl) fun d => ?_
  exact sum_congr_mul (fun k => state_apply A B x W w i2 k) fun k => rfl

end Cert.Proof.Mix.Host
-- ==== Proof.GlaChunk.lean ====
/- ONE CHUNK of the gated linear attention's body: the masks, the running sums of the log-decays, and what sixty-four rows contribute,
   as functions of the chunk's number and of the state it starts from. -/
module

public import proofs.«01_k».proof.Proof.Gen.GlaIdeal.Value
public import Idealize.ShloMosaic.Lib.Pointwise

@[expose] public section

set_option maxRecDepth 65536

namespace Cert.Proof.Gla

open Cert.GlaIdeal Cert.GlaIdeal.Gen
open Idealize.ShloMosaic Idealize.ShloMosaic.TcCoe
open Idealize.ShloMosaic.Pointwise

/-- The row numbers of a square of four chunks. -/
def rows0 : IVec S256x256 32 := iota .tc S256x256 32 [0] iota_S256x256_d0_w32

/-- Whether two rows of such a square are in one chunk. -/
noncomputable def sameChunk : IVec S256x256 1 := k0_pay8 rows0 64#32 k0_pay6 k0_pay7

/-- One where the column is a row of the same chunk, at or before the row. -/
noncomputable def tri : FVec Ideal S256x256 .bf16 := k0_pay9 sameChunk rows0

/-- The running sums of the log-decays within each chunk. -/
noncomputable def cum (L : FVec Ideal S1024x256 .f32) : FVec Ideal S1024x256 .f32 :=
  k0_pay18 tri (k0_pay10 L sameChunk rows0) (k0_pay11 L sameChunk rows0) (k0_pay12 L sameChunk rows0)
    (k0_pay14 L) (k0_pay15 L) (k0_pay16 L) (k0_pay17 L)

/-- At every row, the sum over its whole chunk. -/
noncomputable def ends (L : FVec Ideal S1024x256 .f32) : FVec Ideal S1024x256 .f32 :=
  k0_pay35 tri (k0_pay10 L sameChunk rows0) (k0_pay11 L sameChunk rows0) (k0_pay12 L sameChunk rows0)
    (k0_pay14 L) (k0_pay15 L) (k0_pay16 L) (k0_pay17 L)

/-- Whether a stacked key's head is a lane's. -/
noncomputable def keyMask : IVec S256x256 1 := k0_pay41 k0_pay39 (iota .tc S256x256 32 [1] iota_S256x256_d1_w32) 64#32 k0_pay40

/-- Whether a stacked value's head is a lane's. -/
noncomputable def valMask : IVec S256x512 1 := k0_pay45 k0_pay42 k0_pay43 k0_pay44

/-- Whether a value lane's head is a key lane's. -/
noncomputable def headMask : IVec S512x256 1 := k0_pay50 (k0_pay47 (iota .tc S512x256 32 [0] iota_S512x256_d0_w32)) k0_pay48 k0_pay49 1#32

theorem rows_in (c : Fin 16) : S1024x256.Slices ![64 * c.val, 0] S64x256 := by
  revert c; decide

theorem vrows_in (c : Fin 16) : S1024x512.Slices ![64 * c.val, 0] S64x512 := by
  revert c; decide

theorem end_in (c : Fin 16) : S1024x256.Slices ![64 * c.val + 63, 0] S1x256 := by
  revert c; decide

theorem head_in (h : Fin 4) : S64x512.Slices ![0, 128 * h.val] S64x128 := by
  revert h; decide

theorem grows_in (c : Fin 16) : ∀ a, (![64 * c.val, 0] : Fin 2 → ℕ) a + (![64, 512] : Fin 2 → ℕ) a ≤ S1024x512.size a := by
  revert c; decide

/-- A chunk's rows. -/
def rows {α : Type} (x : S1024x256.Idx → α) (c : Fin 16) : S64x256.Idx → α :=
  extractStridedSlice S64x256 ![64 * c.val, 0] x (rows_in c)

/-- A chunk's value rows. -/
def vrows {α : Type} (x : S1024x512.Idx → α) (c : Fin 16) : S64x512.Idx → α :=
  extractStridedSlice S64x512 ![64 * c.val, 0] x (vrows_in c)

/-- A chunk's keys, once for each head. -/
noncomputable def stackK (x : FVec Ideal S64x256 .f32) : FVec Ideal S256x256 .f32 :=
  concatenate S256x256 0 [⟨S64x256, x⟩, ⟨S64x256, x⟩, ⟨S64x256, x⟩, ⟨S64x256, x⟩] concatenates_S64x256_S64x256_S64x256_S64x256_S256x256_d0

/-- A chunk's values, once for each head. -/
noncomputable def stackV (x : FVec Ideal S64x512 .f32) : FVec Ideal S256x512 .f32 :=
  concatenate S256x512 0 [⟨S64x512, x⟩, ⟨S64x512, x⟩, ⟨S64x512, x⟩, ⟨S64x512, x⟩] concatenates_S64x512_S64x512_S64x512_S64x512_S256x512_d0

/-- The four heads side by side. -/
noncomputable def beside (f : Fin 4 → FVec Ideal S64x128 .f32) : FVec Ideal S64x512 .f32 :=
  concatenate S64x512 1 [⟨S64x128, f 0⟩, ⟨S64x128, f 1⟩, ⟨S64x128, f 2⟩, ⟨S64x128, f 3⟩]
    concatenates_S64x128_S64x128_S64x128_S64x128_S64x512_d1

/-- The masked scores of a chunk, the heads side by side. -/
noncomputable def chunkAtt (Q : FVec Ideal S1024x256 .bf16) (K : FVec Ideal S1024x256 .f32) (c : Fin 16) : FVec Ideal S64x256 .bf16 :=
  truncf .bf16
    (select k0_pay46
      (matmul dot_S64x256_S256x256_S64x256_1_1_0_0_n_n none (rows Q c)
        (truncf .bf16
          (select keyMask
            (stackK (rows K c))
            (broadcast S256x256 (Scalar.ofBits .f32 0x00000000#32)))
          bitsLt_bf16_f32)
        (constant S64x256 .f32 0x00000000#32))
      (broadcast S64x256 (Scalar.ofBits .f32 0x00000000#32)))
    bitsLt_bf16_f32

/-- The state after a chunk, from the state before it. -/
noncomputable def nextState (G : FVec Ideal S1024x256 .f32) (KE : FVec Ideal S1024x256 .bf16) (V : Vec Ideal S1024x512 .f32)
    (c : Fin 16) (S : FVec Ideal S512x256 .f32) : FVec Ideal S512x256 .f32 :=
  addf
    (mulf S (broadcastTo S512x256 (exp (extractStridedSlice S1x256 ![64 * c.val + 63, 0] G (end_in c))) broadcasts_S1x256_S512x256))
    (select headMask
      (matmul dot_S64x512_S64x256_S512x256_0_0_1_1_n_n none (truncf .bf16 (vrows V c) bitsLt_bf16_f32) (rows KE c)
        (constant S512x256 .f32 0x00000000#32))
      (broadcast S512x256 (Scalar.ofBits .f32 0x00000000#32)))

/-- The state before chunk `n`. -/
noncomputable def stateAt (G : FVec Ideal S1024x256 .f32) (KE : FVec Ideal S1024x256 .bf16) (V : Vec Ideal S1024x512 .f32)
    (S : FVec Ideal S512x256 .f32) : ℕ → FVec Ideal S512x256 .f32
  | 0 => S
  | n + 1 => nextState G KE V ⟨n % 16, Nat.mod_lt _ (by decide)⟩ (stateAt G KE V S n)

/-- A chunk's outputs before the norm: the masked scores against the values, and the queries against the state. -/
noncomputable def chunkO (Q : FVec Ideal S1024x256 .bf16) (K : FVec Ideal S1024x256 .f32) (V : Vec Ideal S1024x512 .f32) (c : Fin 16)
    (S : FVec Ideal S512x256 .f32) : FVec Ideal S64x512 .f32 :=
  addf
    (matmul dot_S64x256_S256x512_S64x512_1_0_0_1_n_n none (chunkAtt Q K c)
      (truncf .bf16
        (select valMask
          (stackV (vrows V c))
          (broadcast S256x512 (Scalar.ofBits .f32 0x00000000#32)))
        bitsLt_bf16_f32)
      (constant S64x512 .f32 0x00000000#32))
    (matmul dot_S64x256_S512x256_S64x512_1_1_0_0_n_n none (rows Q c) (truncf .bf16 S bitsLt_bf16_f32) (constant S64x512 .f32 0x00000000#32))

/-- One head's outputs over their root mean square. -/
noncomputable def headNorm (O : FVec Ideal S64x512 .f32) (h : Fin 4) : FVec Ideal S64x128 .f32 :=
  mulf (extractStridedSlice S64x128 ![0, 128 * h.val] O (head_in h))
    (broadcastTo S64x128
      (rsqrt
        (addf
          (divf
            (shapeCast S64x1
              (multiReduction .add [1] S64
                (mulf (extractStridedSlice S64x128 ![0, 128 * h.val] O (head_in h)) (extractStridedSlice S64x128 ![0, 128 * h.val] O (head_in h)))
                0x00000000#32 reduces_S64x128_S64 (.inl rfl) rfl)
              shapeCasts_S64_S64x1)
            (broadcast S64x1 (Scalar.ofBits .f32 0x43000000#32)))
          (broadcast S64x1 (Scalar.ofBits .f32 0x358637BD#32))))
      broadcasts_S64x1_S64x128)

/-- The output gate of a chunk: `x · 1 / (1 + exp (0 − x))`. -/
noncomputable def swish (X : Vec Ideal S64x512 .f32) : FVec Ideal S64x512 .f32 :=
  mulf X
    (divf (broadcast S64x512 (Scalar.ofBits .f32 0x3F800000#32))
      (addf (broadcast S64x512 (Scalar.ofBits .f32 0x3F800000#32))
        (exp (subf (broadcast S64x512 (Scalar.ofBits .f32 0x00000000#32)) X))))

/-- What is stored for a chunk: the heads normalised, times the norm's weight and the output gate. -/
noncomputable def gated (O : FVec Ideal S64x512 .f32) (nw : FVec Ideal S1x512 .f32) (X : Vec Ideal S64x512 .f32) : FVec Ideal S64x512 .bf16 :=
  truncf .bf16
    (mulf
      (mulf
        (beside (headNorm O))
        (broadcastTo S64x512 nw broadcasts_S1x512_S64x512))
      (swish X))
    bitsLt_bf16_f32

/-- What the body stores for chunk `c`, from the decayed queries and keys, the values, the running sums, the output gate, the norm's weight
    and the state the grid point starts from. -/
noncomputable def piece (Q : FVec Ideal S1024x256 .bf16) (K : FVec Ideal S1024x256 .f32) (G : FVec Ideal S1024x256 .f32)
    (KE : FVec Ideal S1024x256 .bf16) (V X : Vec Ideal S1024x512 .f32) (nw : FVec Ideal S1x512 .f32) (S : FVec Ideal S512x256 .f32)
    (c : Fin 16) : FVec Ideal S64x512 .bf16 :=
  gated (chunkO Q K V c (stateAt G KE V S c.val)) nw
    (View.ld X (Rect.unit (s := S1024x512) ![64 * c.val, 0] ![64, 512] (grows_in c)))

/-- What the sixteen chunks' stores leave. -/
noncomputable def blockOut (Q : FVec Ideal S1024x256 .bf16) (K : FVec Ideal S1024x256 .f32) (G : FVec Ideal S1024x256 .f32)
    (KE : FVec Ideal S1024x256 .bf16) (V X : Vec Ideal S1024x512 .f32) (nw : FVec Ideal S1x512 .f32) (S : FVec Ideal S512x256 .f32) :
    Vec Ideal S1024x512 .bf16 := fun i =>
  piece Q K G KE V X nw S ⟨(i 0).val / 64, by have : (i 0).val < 1024 := (i 0).isLt; omega⟩ (ix2 ⟨(i 0).val % 64, Nat.mod_lt _ (by decide)⟩ (i 1))

end Cert.Proof.Gla
-- ==== Proof.GlaMask.lean ====
/- THE MASKS of the gated linear attention, entry by entry: two rows of one chunk, a lane of one head, a key at or before its query. -/
module

public import proofs.«01_k».proof.Proof.GlaChunk
public import Idealize.ShloMosaic.Lib.Pointwise

@[expose] public section

set_option maxRecDepth 65536

namespace Cert.Proof.Gla

open Cert.GlaIdeal Cert.GlaIdeal.Gen
open Idealize.ShloMosaic Idealize.ShloMosaic.TcCoe
open Idealize.ShloMosaic.Pointwise

/-- The quotient rounded down, as the program computes it from the quotient rounded to zero and the remainder. -/
def downDiv (x k : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt k 0#32)) (Scalar.extui (Scalar.cmpi CmpIPredicate.slt k 0#32))))
      (IntOp.cmpi CmpIPredicate.ne (IntOp.remsi ArithUnit.vector x k) 0#32))
    (IntOp.subi (IntOp.divsi ArithUnit.vector x k) 1#32)
    (IntOp.divsi ArithUnit.vector x k)

/-- The remainder of the rounded-down quotient, as the program computes it. -/
def downMod (x k : BitVec 32) : BitVec 32 :=
  Scalar.select
    (IntOp.andi
      (IntOp.xori (IntOp.cmpi CmpIPredicate.slt (IntOp.remsi ArithUnit.vector x k) 0#32) (Scalar.cmpi CmpIPredicate.slt k 0#32))
      (IntOp.cmpi CmpIPredicate.ne (IntOp.remsi ArithUnit.vector x k) 0#32))
    (IntOp.addi (IntOp.remsi ArithUnit.vector x k) k)
    (IntOp.remsi ArithUnit.vector x k)

theorem downDiv64 : ∀ i : Fin 256, downDiv (BitVec.ofNat 32 i.val) 64#32 = BitVec.ofNat 32 (i.val / 64) := by decide +kernel

theorem downDiv128 : ∀ i : Fin 512, downDiv (BitVec.ofNat 32 i.val) 128#32 = BitVec.ofNat 32 (i.val / 128) := by decide +kernel

theorem downMod64 : ∀ i : Fin 256, downMod (BitVec.ofNat 32 i.val) (Scalar.select (Scalar.cmpi CmpIPredicate.eq 64#32 0#32) 1#32 64#32) = BitVec.ofNat 32 (i.val % 64) := by
  decide +kernel

theorem eq_of_small (a b : ℕ) (ha : a < 8) (hb : b < 8) :
    IntOp.cmpi CmpIPredicate.eq (BitVec.ofNat 32 a) (BitVec.ofNat 32 b) = BitVec.ofBool (decide (a = b)) := by
  exact (by decide +kernel : ∀ a b : Fin 8, IntOp.cmpi CmpIPredicate.eq (BitVec.ofNat 32 a.val) (BitVec.ofNat 32 b.val) = BitVec.ofBool (decide (a.val = b.val)))
    ⟨a, ha⟩ ⟨b, hb⟩

theorem ge_of_small (a b : ℕ) (ha : a < 2 ^ 31) (hb : b < 2 ^ 31) :
    IntOp.cmpi CmpIPredicate.sge (BitVec.ofNat 32 a) (BitVec.ofNat 32 b) = BitVec.ofBool (decide (b ≤ a)) := by
  have e : ∀ n : ℕ, n < 2 ^ 31 → (BitVec.ofNat 32 n).toInt = n := by
    intro n hn
    rw [BitVec.toInt_eq_toNat_bmod, BitVec.toNat_ofNat, Nat.mod_eq_of_lt (by omega)]
    exact Int.bmod_eq_of_le (by omega) (by omega)
  show BitVec.ofBool ((BitVec.ofNat 32 b).sle (BitVec.ofNat 32 a)) = _
  rw [BitVec.sle, e a ha, e b hb]
  congr 1
  exact decide_eq_decide.mpr (by omega)

theorem select_ofBool {α : Type} (p : Prop) [Decidable p] (a b : α) : Scalar.select (BitVec.ofBool (decide p)) a b = if p then a else b := by
  by_cases h : p <;> simp [h, Scalar.select]

theorem same_apply (i j : Fin 256) : sameChunk (ix2 i j) = BitVec.ofBool (decide (i.val / 64 = j.val / 64)) := by
  pointwise [sameChunk, rows0, k0_pay8, k0_pay6, k0_pay7]
  show IntOp.cmpi CmpIPredicate.eq (downDiv (BitVec.ofNat 32 i.val) 64#32) (downDiv (BitVec.ofNat 32 j.val) 64#32) = _
  rw [downDiv64 i, downDiv64 j]
  exact eq_of_small _ _ (by omega) (by omega)

theorem key_apply (i j : Fin 256) : keyMask (ix2 i j) = BitVec.ofBool (decide (i.val / 64 = j.val / 64)) := by
  pointwise [keyMask, k0_pay39, k0_pay40, k0_pay41]
  show IntOp.cmpi CmpIPredicate.eq (downDiv (BitVec.ofNat 32 i.val) 64#32) (downDiv (BitVec.ofNat 32 j.val) 64#32) = _
  rw [downDiv64 i, downDiv64 j]
  exact eq_of_small _ _ (by omega) (by omega)

theorem val_apply (i : Fin 256) (j : Fin 512) : valMask (ix2 i j) = BitVec.ofBool (decide (i.val / 64 = j.val / 128)) := by
  pointwise [valMask, k0_pay42, k0_pay43, k0_pay44, k0_pay45]
  show IntOp.cmpi CmpIPredicate.eq (downDiv (BitVec.ofNat 32 i.val) 64#32) (downDiv (BitVec.ofNat 32 j.val) 128#32) = _
  rw [downDiv64 i, downDiv128 j]
  exact eq_of_small _ _ (by omega) (by omega)

theorem head_apply (i : Fin 512) (j : Fin 256) : headMask (ix2 i j) = BitVec.ofBool (decide (i.val / 128 = j.val / 64)) := by
  pointwise [headMask, k0_pay47, k0_pay48, k0_pay49, k0_pay50]
  show IntOp.cmpi CmpIPredicate.eq (downDiv (BitVec.ofNat 32 i.val) 128#32) (downDiv (BitVec.ofNat 32 j.val) 64#32) = _
  rw [downDiv128 i, downDiv64 j]
  exact eq_of_small _ _ (by omega) (by omega)

theorem causal_apply (i : Fin 64) (j : Fin 256) : k0_pay46 (ix2 i j) = BitVec.ofBool (decide (j.val % 64 ≤ i.val)) := by
  pointwise [k0_pay46]
  show IntOp.cmpi CmpIPredicate.sge (BitVec.ofNat 32 i.val)
    (downMod (BitVec.ofNat 32 j.val) (Scalar.select (Scalar.cmpi CmpIPredicate.eq 64#32 0#32) 1#32 64#32)) = _
  rw [downMod64 j]
  exact ge_of_small _ _ (by omega) (by omega)

theorem tri_apply (i j : Fin 256) : tri (ix2 i j) = if i.val / 64 = j.val / 64 ∧ j.val ≤ i.val then 1 else 0 := by
  pointwise [tri, rows0, k0_pay9]
  rw [same_apply, ge_of_small _ _ (by omega) (by omega)]
  have e0 : FloatOps.sitofp (F := Ideal) .f32 0#32 = 0 := by
    show (((0#32 : BitVec 32).toInt : ℝ) : EReal) = 0
    simp
  have e1 : FloatOps.sitofp (F := Ideal) .f32 1#32 = 1 := by
    show (((1#32 : BitVec 32).toInt : ℝ) : EReal) = 1
    rw [show (1#32 : BitVec 32).toInt = 1 from rfl]
    simp
  by_cases h : i.val / 64 = j.val / 64
  · by_cases h' : j.val ≤ i.val
    · simp only [h, h', and_self, decide_true, if_true]
      exact e1
    · simp only [h, h', and_false, decide_true, decide_false, if_false]
      exact e0
  · by_cases h' : j.val ≤ i.val
    · simp only [h, h', false_and, decide_true, decide_false, if_false]
      exact e0
    · simp only [h, h', false_and, decide_false, if_false]
      exact e0

end Cert.Proof.Gla
-- ==== Proof.GlaEntry.lean ====
/- THE GATED LINEAR ATTENTION'S BLOCK, entry by entry: the running sums, the scores, the state and the outputs as sums over one head. -/
module

public import proofs.«01_k».proof.Proof.GlaMask

@[expose] public section

set_option maxRecDepth 65536

namespace Cert.Proof.Gla

open Cert.GlaIdeal Cert.GlaIdeal.Gen
open Idealize.ShloMosaic Idealize.ShloMosaic.TcCoe
open Idealize.ShloMosaic.Pointwise

/-- A sum over the lanes of all heads that only one head contributes to. -/
theorem sum_head (h : ℕ) (hh : h < 4) (f : Fin 256 → EReal) (hf : ∀ l, l.val / 64 ≠ h → f l = 0) :
    ∑ l, f l = ∑ d : Fin 64, f ⟨64 * h + d.val, by omega⟩ := by
  symm
  refine Finset.sum_of_injOn (fun d : Fin 64 => (⟨64 * h + d.val, by omega⟩ : Fin 256)) ?_ ?_ ?_ ?_
  · intro a _ b _ e
    have := congrArg Fin.val e
    exact Fin.ext (by simpa using this)
  · intro _ _
    simp
  · intro l _ hl
    apply hf
    intro e
    apply hl
    refine ⟨⟨l.val % 64, Nat.mod_lt _ (by decide)⟩, by simp, Fin.ext ?_⟩
    show 64 * h + l.val % 64 = l.val
    omega
  · intro _ _
    rfl

/-- A number less than infinity and what is left of it after itself is taken off, twice. -/
theorem add_rests (x : EReal) (hx : x ≠ ⊤) : x + (x - x) + (x - x - (x - x)) = x := by
  induction x with
  | bot => rfl
  | top => exact absurd rfl hx
  | coe r =>
    rw [← EReal.coe_sub, ← EReal.coe_sub, ← EReal.coe_add, ← EReal.coe_add]
    simp

/-- Three products with a mask of zeros and ones, as one sum over what the mask selects. -/
theorem sum_rests (p : Fin 256 → Prop) [DecidablePred p] (f : Fin 256 → EReal) (hf : ∀ x, f x ≠ ⊤) :
    ∑ x, (if p x then 1 else 0) * f x + ∑ x, (if p x then 1 else 0) * (f x - f x)
      + ∑ x, (if p x then 1 else 0) * (f x - f x - (f x - f x)) = ∑ x, if p x then f x else 0 := by
  rw [← Finset.sum_add_distrib, ← Finset.sum_add_distrib]
  refine Finset.sum_congr rfl fun x _ => ?_
  by_cases h : p x
  · simp only [h, if_true, one_mul]
    exact add_rests _ (hf x)
  · simp only [h, if_false, zero_mul, add_zero]

/-- The log-decay of a gate's preactivation. -/
noncomputable def decayOf (y : EReal) : EReal :=
  (0 - (max (0 - y) 0 + Ideal.log (1 + Ideal.exp (0 - FloatOps.absf (F := Ideal) (φ := .f32) (0 - y))))) * Ideal.ofBits .f32 1031798784#32

theorem logs_apply (X3 : Vec Ideal S1024x128 .f32) (W : Vec Ideal S128x256 .f32) (b : Vec Ideal S1x256 .f32) (r : Fin 1024) (d : Fin 256) :
    k0_pay5 X3 W b (ix2 r d) = decayOf (∑ x : Fin 128, X3 (ix2 r x) * W (ix2 x d) + b (ix2 0 d)) := by
  pointwise [k0_pay5]
  rfl

/-- A concatenation along the rows of pieces of `k` rows, at one entry. -/
theorem concat_rows {α : Type} {M N k n : ℕ} (f : Fin N → ((⟨2, ![k, n]⟩ : Shape).Idx → α))
    (h : Shape.Concatenates ((List.ofFn fun q : Fin N => (⟨⟨2, ![k, n]⟩, f q⟩ : (s : Shape) × (s.Idx → α))).map (·.1)) (⟨2, ![M, n]⟩ : Shape) 0)
    (r : Fin M) (d : Fin n) (q : Fin N) (i : Fin k) (hr : r.val = k * q.val + i.val) :
    concatenate (⟨2, ![M, n]⟩ : Shape) 0 (List.ofFn fun q : Fin N => (⟨⟨2, ![k, n]⟩, f q⟩ : (s : Shape) × (s.Idx → α))) h (ix2 r d) = f q (ix2 i d) := by
  refine Idealize.ShloMosaic.concatenate_ofFn_apply 0 f h rfl k rfl (ix2 r d) q ?_ (ix2 i d) ?_ ?_
  · show r.val / k = q.val
    rw [hr, Nat.mul_add_div (by have := i.isLt; omega), Nat.div_eq_of_lt i.isLt, add_zero]
  · show i.val = r.val % k
    rw [hr, Nat.mul_add_mod, Nat.mod_eq_of_lt i.isLt]
  · intro b hb
    fin_cases b
    · exact absurd rfl hb
    · rfl

/-- The four groups of running sums. -/
noncomputable def groups (L : FVec Ideal S1024x256 .f32) : Fin 4 → FVec Ideal S256x256 .f32 :=
  ![k0_pay10 L sameChunk rows0, k0_pay11 L sameChunk rows0, k0_pay12 L sameChunk rows0,
    addf
      (addf (matmul dot_S256x256_S256x256_S256x256_1_0_0_1_n_n none tri (k0_pay14 L) (constant S256x256 .f32 0x00000000#32))
        (matmul dot_S256x256_S256x256_S256x256_1_0_0_1_n_n none tri (k0_pay16 L) (constant S256x256 .f32 0x00000000#32)))
      (matmul dot_S256x256_S256x256_S256x256_1_0_0_1_n_n none tri (truncf .bf16 (subf (k0_pay15 L) (k0_pay17 L)) bitsLt_bf16_f32)
        (constant S256x256 .f32 0x00000000#32))]

/-- The log-decays of one chunk's rows up to the row. -/
theorem cum_group (L : FVec Ideal S1024x256 .f32) (hL : ∀ i, L i ≠ ⊤) (g : Fin 4) (i d : Fin 256) :
    cum L (ix2 ⟨256 * g.val + i.val, by omega⟩ d)
      = ∑ x : Fin 256, if i.val / 64 = x.val / 64 ∧ x.val ≤ i.val then L (ix2 ⟨256 * g.val + x.val, by omega⟩ d) else 0 := by
  rw [← sum_rests (fun x : Fin 256 => i.val / 64 = x.val / 64 ∧ x.val ≤ i.val) (fun x => L (ix2 ⟨256 * g.val + x.val, by omega⟩ d)) (fun x => hL _)]
  simp only [← tri_apply]
  trans groups L g (ix2 i d)
  · exact concat_rows (k := 256) (groups L) concatenates_S256x256_S256x256_S256x256_S256x256_S1024x256_d0 _ d g i rfl
  unfold tri
  fin_cases g
  · pointwise [groups, k0_pay10]
  · pointwise [groups, k0_pay11]
  · pointwise [groups, k0_pay12]
  · pointwise [groups, k0_pay14, k0_pay15, k0_pay16, k0_pay17, k0_pay13, tri]

/-- The sum of a chunk's log-decays up to row `i` of the chunk. -/
theorem cum_apply (L : FVec Ideal S1024x256 .f32) (hL : ∀ i, L i ≠ ⊤) (c : Fin 16) (i : Fin 64) (d : Fin 256) :
    cum L (ix2 ⟨64 * c.val + i.val, by omega⟩ d)
      = ∑ s : Fin 64, if s.val ≤ i.val then L (ix2 ⟨64 * c.val + s.val, by omega⟩ d) else 0 := by
  have hg := cum_group L hL ⟨c.val / 4, by omega⟩ ⟨64 * (c.val % 4) + i.val, by omega⟩ d
  have e : (⟨256 * (c.val / 4) + (64 * (c.val % 4) + i.val), by omega⟩ : Fin 1024) = ⟨64 * c.val + i.val, by omega⟩ :=
    Fin.ext (by show 256 * (c.val / 4) + (64 * (c.val % 4) + i.val) = 64 * c.val + i.val; omega)
  simp only [e] at hg
  rw [hg, sum_head (c.val % 4) (by omega)]
  · refine Finset.sum_congr rfl fun s _ => ?_
    have e' : (⟨256 * (c.val / 4) + (64 * (c.val % 4) + s.val), by omega⟩ : Fin 1024) = ⟨64 * c.val + s.val, by omega⟩ :=
      Fin.ext (by show 256 * (c.val / 4) + (64 * (c.val % 4) + s.val) = 64 * c.val + s.val; omega)
    simp only [e']
    refine if_congr ?_ rfl rfl
    constructor
    · intro h; omega
    · intro h; exact ⟨by omega, by omega⟩
  · intro l hl
    rw [if_neg]
    intro h
    exact hl (by omega)

/-- A chunk's last row, repeated for each of its rows. -/
noncomputable def lastRow (G : FVec Ideal S1024x256 .f32) (c : Fin 16) : FVec Ideal S64x256 .f32 :=
  broadcastTo S64x256 (shapeCast S1x256 (extractStridedSlice S1x256 ![64 * c.val + 63, 0] G (end_in c)) shapeCasts_S1x256_S1x256)
    broadcasts_S1x256_S64x256

/-- At every row, the running sum of its chunk's last row. -/
theorem ends_apply (L : FVec Ideal S1024x256 .f32) (c : Fin 16) (i : Fin 64) (d : Fin 256) :
    ends L (ix2 ⟨64 * c.val + i.val, by omega⟩ d) = cum L (ix2 ⟨64 * c.val + 63, by omega⟩ d) := by
  trans lastRow (cum L) c (ix2 i d)
  · unfold ends k0_pay35 k0_pay19 k0_pay20 k0_pay21 k0_pay22 k0_pay23 k0_pay24 k0_pay25 k0_pay26 k0_pay27 k0_pay28 k0_pay29 k0_pay30 k0_pay31
      k0_pay32 k0_pay33 k0_pay34
    unfold cum
    generalize k0_pay18 (F := Ideal) _ _ _ _ _ _ _ _ = G
    exact concat_rows (k := 64) (N := 16) (lastRow G)
      concatenates_S64x256_S64x256_S64x256_S64x256_S64x256_S64x256_S64x256_S64x256_S64x256_S64x256_S64x256_S64x256_S64x256_S64x256_S64x256_S64x256_S1024x256_d0 _ d c i rfl
  · pointwise [lastRow]

theorem stackK_apply (x : FVec Ideal S64x256 .f32) (l d : Fin 256) : stackK x (ix2 l d) = x (ix2 ⟨l.val % 64, Nat.mod_lt _ (by decide)⟩ d) :=
  concat_rows (k := 64) (N := 4) (fun _ => x) concatenates_S64x256_S64x256_S64x256_S64x256_S256x256_d0 l d ⟨l.val / 64, by omega⟩
    ⟨l.val % 64, by omega⟩ (Nat.div_add_mod _ _).symm

theorem stackV_apply (x : FVec Ideal S64x512 .f32) (l : Fin 256) (d : Fin 512) :
    stackV x (ix2 l d) = x (ix2 ⟨l.val % 64, Nat.mod_lt _ (by decide)⟩ d) :=
  concat_rows (k := 64) (N := 4) (fun _ => x) concatenates_S64x512_S64x512_S64x512_S64x512_S256x512_d0 l d ⟨l.val / 64, by omega⟩
    ⟨l.val % 64, by omega⟩ (Nat.div_add_mod _ _).symm

theorem beside_apply (f : Fin 4 → FVec Ideal S64x128 .f32) (i : Fin 64) (h : Fin 4) (w : Fin 128) :
    beside f (ix2 i ⟨128 * h.val + w.val, by omega⟩) = f h (ix2 i w) := by
  refine Idealize.ShloMosaic.concatenate_ofFn_apply 1 f concatenates_S64x128_S64x128_S64x128_S64x128_S64x512_d1 rfl 128 rfl
    (ix2 i ⟨128 * h.val + w.val, by omega⟩) h ?_ (ix2 i w) ?_ ?_
  · show (128 * h.val + w.val) / 128 = h.val
    omega
  · show w.val = (128 * h.val + w.val) % 128
    omega
  · intro b hb
    fin_cases b
    · rfl
    · exact absurd rfl hb

/-- A masked score: the head's decayed query against its decayed key, where the key is at or before the query. -/
theorem att_apply (Q : FVec Ideal S1024x256 .bf16) (K : FVec Ideal S1024x256 .f32) (c : Fin 16) (i : Fin 64) (h : Fin 4) (j : Fin 64) :
    chunkAtt Q K c (ix2 i ⟨64 * h.val + j.val, by omega⟩) =
      if j.val ≤ i.val then ∑ d : Fin 64, Q (ix2 ⟨64 * c.val + i.val, by omega⟩ ⟨64 * h.val + d.val, by omega⟩)
        * K (ix2 ⟨64 * c.val + j.val, by omega⟩ ⟨64 * h.val + d.val, by omega⟩) else 0 := by
  pointwise [chunkAtt, rows]
  rw [causal_apply, select_ofBool]
  have e : (64 * h.val + j.val) % 64 = j.val := by omega
  simp only [e]
  refine if_congr Iff.rfl ?_ rfl
  simp only [key_apply, select_ofBool, stackK_apply]
  rw [sum_head h.val h.isLt]
  · refine Finset.sum_congr rfl fun d _ => ?_
    rw [if_pos (by show (64 * h.val + j.val) / 64 = (64 * h.val + d.val) / 64; omega)]
    simp only [e]
    pointwise
  · intro l hl
    rw [if_neg (by intro h'; apply hl; omega)]

theorem next_apply (G : FVec Ideal S1024x256 .f32) (KE : FVec Ideal S1024x256 .bf16) (V : Vec Ideal S1024x512 .f32)
    (c : Fin 16) (S : FVec Ideal S512x256 .f32) (v : Fin 512) (l : Fin 256) :
    nextState G KE V c S (ix2 v l) = S (ix2 v l) * Ideal.exp (G (ix2 ⟨64 * c.val + 63, by omega⟩ l))
      + if v.val / 128 = l.val / 64 then ∑ j : Fin 64, V (ix2 ⟨64 * c.val + j.val, by omega⟩ v) * KE (ix2 ⟨64 * c.val + j.val, by omega⟩ l) else 0 := by
  pointwise [nextState, rows, vrows]
  rw [head_apply, select_ofBool]

/-- The outputs before the norm, at one row and one lane of a head, from a state whose other heads' entries are zero. -/
theorem chunkO_apply (Q : FVec Ideal S1024x256 .bf16) (K : FVec Ideal S1024x256 .f32) (V : Vec Ideal S1024x512 .f32) (c : Fin 16)
    (S : FVec Ideal S512x256 .f32) (h : Fin 4) (v : Fin 512) (hv : v.val / 128 = h.val)
    (hS : ∀ l : Fin 256, l.val / 64 ≠ h.val → S (ix2 v l) = 0) (i : Fin 64) :
    chunkO Q K V c S (ix2 i v) =
      ∑ j : Fin 64, chunkAtt Q K c (ix2 i ⟨64 * h.val + j.val, by omega⟩) * V (ix2 ⟨64 * c.val + j.val, by omega⟩ v)
        + ∑ d : Fin 64, Q (ix2 ⟨64 * c.val + i.val, by omega⟩ ⟨64 * h.val + d.val, by omega⟩) * S (ix2 v ⟨64 * h.val + d.val, by omega⟩) := by
  pointwise [chunkO, rows, vrows]
  simp only [val_apply, select_ofBool, stackV_apply]
  congr 1
  · rw [sum_head h.val h.isLt]
    · refine Finset.sum_congr rfl fun j _ => ?_
      have e : (64 * h.val + j.val) % 64 = j.val := by omega
      rw [if_pos (by show (64 * h.val + j.val) / 64 = v.val / 128; omega)]
      simp only [e]
      pointwise
    · intro l hl
      rw [if_neg (by intro h'; apply hl; omega)]
  · rw [sum_head h.val h.isLt]
    intro l hl
    rw [hS l hl, mul_zero]

end Cert.Proof.Gla
-- ==== Proof.GlaSpec.lean ====
/- THE GATED LINEAR ATTENTION OF ONE HEAD, over the chunks of one batch: the running sums of the log-decays, the state before each chunk, by
   recursion and as one sum over the chunks before it, and the outputs. -/
module

public import proofs.«01_k».proof.Proof.GlaEntry

@[expose] public section

namespace Cert.Proof.Gla

open Idealize.ShloMosaic

theorem exp_add (a b : EReal) (ha : a ≠ ⊤) (hb : b ≠ ⊤) : Ideal.exp (a + b) = Ideal.exp a * Ideal.exp b := by
  induction a with
  | top => exact absurd rfl ha
  | bot => rw [EReal.bot_add, Ideal.exp_bot, zero_mul]
  | coe r =>
    induction b with
    | top => exact absurd rfl hb
    | bot => rw [EReal.add_bot, Ideal.exp_bot, mul_zero]
    | coe s => rw [← EReal.coe_add, Ideal.exp_coe, Ideal.exp_coe, Ideal.exp_coe, Real.exp_add, EReal.coe_mul]

theorem exp_nonneg (a : EReal) : 0 ≤ Ideal.exp a := by
  induction a with
  | top => rw [Ideal.exp_top]; exact le_top
  | bot => rw [Ideal.exp_bot]
  | coe r => rw [Ideal.exp_coe]; exact EReal.coe_nonneg.mpr (Real.exp_nonneg r)

theorem exp_ne_top (a : EReal) (ha : a ≠ ⊤) : Ideal.exp a ≠ ⊤ := by
  induction a with
  | top => exact absurd rfl ha
  | bot => rw [Ideal.exp_bot]; exact EReal.zero_ne_top
  | coe r => rw [Ideal.exp_coe]; exact EReal.coe_ne_top _

theorem sum_ne_top {ι : Type} [Fintype ι] (f : ι → EReal) (hf : ∀ i, f i ≠ ⊤) : ∑ i, f i ≠ ⊤ := by
  classical
  refine Finset.sum_induction f (· ≠ ⊤) (fun a b ha hb => EReal.add_ne_top ha hb) EReal.zero_ne_top fun i _ => hf i

theorem sum_mul_fin {ι : Type} [Fintype ι] (f : ι → EReal) (x : EReal) (h0 : 0 ≤ x) (h1 : x ≠ ⊤) : (∑ i, f i) * x = ∑ i, f i * x := by
  classical
  refine Finset.induction_on (motive := fun s : Finset ι => (∑ i ∈ s, f i) * x = ∑ i ∈ s, f i * x) Finset.univ ?_ fun a s ha ih => ?_
  · rw [Finset.sum_empty, Finset.sum_empty, zero_mul]
  rw [Finset.sum_insert ha, Finset.sum_insert ha, EReal.right_distrib_of_nonneg_of_ne_top h0 h1, ih]

/-- The log-decay is below infinity: its logarithm's argument is at least one. -/
theorem decayOf_ne_top (y : EReal) : decayOf y ≠ ⊤ := by
  have hc : Ideal.ofBits .f32 1031798784#32 = (((1 : ℝ) / 16 : ℝ) : EReal) := by
    simp [Ideal.ofBits, Ideal.ieee, -EReal.coe_mul]; norm_num
  have hl : 0 ≤ Ideal.log (1 + Ideal.exp (0 - FloatOps.absf (F := Ideal) (φ := .f32) (0 - y))) := by
    obtain ⟨z, hz⟩ : ∃ z : EReal, z = 0 - FloatOps.absf (F := Ideal) (φ := .f32) (0 - y) := ⟨_, rfl⟩
    rw [← hz]
    clear hz
    induction z with
    | top => rw [Ideal.exp_top, EReal.add_top_of_ne_bot (by decide)]; exact le_top
    | bot =>
      rw [Ideal.exp_bot, add_zero, ← EReal.coe_one]
      show (0 : EReal) ≤ if (1 : ℝ) ≤ 0 then ⊥ else (Real.log 1 : EReal)
      rw [if_neg (by norm_num), Real.log_one, EReal.coe_zero]
    | coe r =>
      rw [Ideal.exp_coe, ← EReal.coe_one, ← EReal.coe_add]
      show (0 : EReal) ≤ if (1 + Real.exp r : ℝ) ≤ 0 then ⊥ else (Real.log (1 + Real.exp r) : EReal)
      have := Real.exp_pos r
      rw [if_neg (by linarith)]
      exact EReal.coe_nonneg.mpr (Real.log_nonneg (by linarith))
  have hs : 0 - (max (0 - y) 0 + Ideal.log (1 + Ideal.exp (0 - FloatOps.absf (F := Ideal) (φ := .f32) (0 - y)))) ≤ 0 := by
    rw [zero_sub, ← neg_zero, EReal.neg_le_neg_iff, neg_zero]
    exact add_nonneg (le_max_right _ _) hl
  have : decayOf y ≤ 0 := by
    unfold decayOf
    rw [hc]
    exact mul_nonpos_of_nonpos_of_nonneg hs (EReal.coe_nonneg.mpr (by norm_num))
  exact (this.trans_lt EReal.zero_lt_top).ne

/-- One head over one batch: its queries, keys and values by chunk and row, and the log-decays. -/
structure Head where
  q : Fin 128 → Fin 64 → Fin 64 → EReal
  k : Fin 128 → Fin 64 → Fin 64 → EReal
  v : Fin 128 → Fin 64 → Fin 128 → EReal
  la : Fin 128 → Fin 64 → Fin 64 → EReal

namespace Head

variable (H : Head)

/-- The sum of chunk `C`'s log-decays up to row `i`. -/
noncomputable def run (C : Fin 128) (i d : Fin 64) : EReal := ∑ s : Fin 64, if s.val ≤ i.val then H.la C s d else 0

/-- The sum over the whole chunk. -/
noncomputable def last (C : Fin 128) (d : Fin 64) : EReal := H.run C 63 d

noncomputable def qin (C : Fin 128) (i d : Fin 64) : EReal := H.q C i d * Ideal.ofBits .f32 0x3E000000#32 * Ideal.exp (H.run C i d)

noncomputable def kin (C : Fin 128) (j d : Fin 64) : EReal := H.k C j d * Ideal.exp (0 - H.run C j d)

noncomputable def kend (C : Fin 128) (j d : Fin 64) : EReal := H.k C j d * Ideal.exp (H.last C d - H.run C j d)

/-- What chunk `C` adds to the state. -/
noncomputable def upd (C : Fin 128) (w : Fin 128) (d : Fin 64) : EReal := ∑ j : Fin 64, H.v C j w * H.kend C j d

/-- The state before chunk `n`. -/
noncomputable def st : ℕ → Fin 128 → Fin 64 → EReal
  | 0, _, _ => 0
  | n + 1, w, d => st n w d * Ideal.exp (H.last ⟨n % 128, Nat.mod_lt _ (by decide)⟩ d) + H.upd ⟨n % 128, Nat.mod_lt _ (by decide)⟩ w d

/-- A row's output: the scores of the rows up to it against the values, and the query against the state. -/
noncomputable def out (C : Fin 128) (i : Fin 64) (w : Fin 128) : EReal :=
  ∑ j : Fin 64, (if j.val ≤ i.val then ∑ d : Fin 64, H.qin C i d * H.kin C j d else 0) * H.v C j w
    + ∑ d : Fin 64, H.qin C i d * H.st C.val w d

/-- A row's output over its root mean square, times a weight and an output gate. -/
noncomputable def res (C : Fin 128) (i : Fin 64) (w : Fin 128) (nw x : EReal) : EReal :=
  H.out C i w * Ideal.rsqrt (Ideal.div (∑ u : Fin 128, H.out C i u * H.out C i u) (Ideal.ofBits .f32 0x43000000#32) + Ideal.ofBits .f32 0x358637BD#32)
    * nw * (x * Ideal.div 1 (1 + Ideal.exp (0 - x)))

/-- What is left before chunk `n` of what chunk `e` added. -/
noncomputable def left (n : ℕ) (e : Fin 128) (d : Fin 64) : EReal :=
  if e.val < n then Ideal.exp (∑ m : Fin 128, if e.val < m.val ∧ m.val < n then H.last m d else 0) else 0

/-- One more chunk. -/
theorem left_succ (hl : ∀ C d, H.last C d ≠ ⊤) (n : Fin 128) (e : Fin 128) (d : Fin 64) :
    H.left (n.val + 1) e d = if e = n then 1 else H.left n.val e d * Ideal.exp (H.last n d) := by
  unfold left
  by_cases h : e = n
  · subst h
    rw [if_pos rfl, if_pos (Nat.lt_succ_self _), Finset.sum_eq_zero, ← EReal.coe_zero, Ideal.exp_coe, Real.exp_zero, EReal.coe_one]
    intro m _
    exact if_neg (by omega)
  have hv : e.val ≠ n.val := fun hh => h (Fin.ext hh)
  rw [if_neg h]
  by_cases hn : e.val < n.val
  · rw [if_pos hn, if_pos (by omega), ← exp_add _ _ (sum_ne_top _ fun m => by split_ifs; exacts [hl m d, EReal.zero_ne_top]) (hl n d)]
    congr 1
    rw [show H.last n d = ∑ m : Fin 128, if m = n then H.last m d else 0 by rw [Finset.sum_ite_eq', if_pos (Finset.mem_univ _)],
      ← Finset.sum_add_distrib]
    refine Finset.sum_congr rfl fun m _ => ?_
    by_cases hm : m = n
    · subst hm
      rw [if_pos ⟨hn, Nat.lt_succ_self _⟩, if_neg (by omega), if_pos rfl, zero_add]
    · have : m.val ≠ n.val := fun hh => hm (Fin.ext hh)
      rw [if_neg hm, add_zero]
      exact if_congr (by omega) rfl rfl
  · rw [if_neg hn, if_neg (by omega), zero_mul]

/-- The state before chunk `n` is what is left of what each chunk before it added. -/
theorem st_eq (hl : ∀ C d, H.last C d ≠ ⊤) (w : Fin 128) (d : Fin 64) :
    ∀ n ≤ 128, H.st n w d = ∑ e : Fin 128, H.upd e w d * H.left n e d
  | 0, _ => by
    refine (Finset.sum_eq_zero fun e _ => ?_).symm
    rw [left, if_neg (Nat.not_lt_zero _), mul_zero]
  | n + 1, hn => by
    have hm : (⟨n % 128, Nat.mod_lt _ (by decide)⟩ : Fin 128) = ⟨n, by omega⟩ := Fin.ext (Nat.mod_eq_of_lt (by omega))
    rw [st, hm, st_eq hl w d n (by omega), sum_mul_fin _ _ (exp_nonneg _) (exp_ne_top _ (hl _ _))]
    rw [show H.upd ⟨n, by omega⟩ w d = ∑ e : Fin 128, if e = ⟨n, by omega⟩ then H.upd e w d else 0 by rw [Finset.sum_ite_eq', if_pos (Finset.mem_univ _)]]
    rw [← Finset.sum_add_distrib]
    refine Finset.sum_congr rfl fun e _ => ?_
    rw [H.left_succ hl ⟨n, by omega⟩ e d]
    by_cases h : e = ⟨n, by omega⟩
    · subst h
      rw [if_pos rfl, if_pos rfl, left, if_neg (by simp), mul_zero, zero_mul, zero_add, mul_one]
    · rw [if_neg h, if_neg h, add_zero, mul_assoc]

end Head

end Cert.Proof.Gla
-- ==== Proof.GlaStep.lean ====
/- WHAT A GRID POINT of the gated linear attention STORES: the outputs of its sixteen chunks, the state they leave, and the table's block, each
   as a function of the state the point starts from. -/
module

public import proofs.«01_k».proof.Proof.GlaChunk
public import Idealize.ShloMosaic.Lib.Pipeline.ValueKit
public import Idealize.ShloMosaic.Lib.Pipeline.ReadBack
public import Idealize.ShloMosaic.Lib.Pointwise

@[expose] public section

set_option maxRecDepth 65536

namespace Cert.Proof.Gla

open Cert.GlaIdeal Cert.GlaIdeal.Gen
open Idealize.ShloMosaic Idealize.ShloMosaic.TcCoe
open Idealize.ShloMosaic.Pointwise
open Idealize.ShloMosaic.Pipeline

variable (m : (ℓ : Loc nD τ sig) → Buf (Elt Ideal) ℓ)

/-- The sixteen updates of the state. -/
theorem updates (t : FVec Ideal S256x256 .bf16) (a b c : FVec Ideal S256x256 .f32) (p : FVec Ideal S256x256 .bf16) (q : FVec Ideal S256x256 .f32)
    (r : FVec Ideal S256x256 .bf16) (s : FVec Ideal S256x256 .f32) (KE : FVec Ideal S1024x256 .bf16) (V : Vec Ideal S1024x512 .f32)
    (S : FVec Ideal S512x256 .f32) :
    (k0_pay75 (k0_pay19 t a b c p q r s) KE V headMask S = nextState (k0_pay18 t a b c p q r s) KE V 0 S) ∧
    (k0_pay84 (k0_pay20 t a b c p q r s) KE V headMask S = nextState (k0_pay18 t a b c p q r s) KE V 1 S) ∧
    (k0_pay92 (k0_pay21 t a b c p q r s) KE V headMask S = nextState (k0_pay18 t a b c p q r s) KE V 2 S) ∧
    (k0_pay103 headMask S (k0_pay100 KE V) (k0_pay102 (k0_pay22 t a b c p q r s)) = nextState (k0_pay18 t a b c p q r s) KE V 3 S) ∧
    (k0_pay112 (k0_pay23 t a b c p q r s) KE V headMask S = nextState (k0_pay18 t a b c p q r s) KE V 4 S) ∧
    (k0_pay120 (k0_pay24 t a b c p q r s) KE V headMask S = nextState (k0_pay18 t a b c p q r s) KE V 5 S) ∧
    (k0_pay129 (k0_pay25 t a b c p q r s) KE headMask S (k0_pay128 V) = nextState (k0_pay18 t a b c p q r s) KE V 6 S) ∧
    (k0_pay139 (k0_pay26 t a b c p q r s) KE V headMask S = nextState (k0_pay18 t a b c p q r s) KE V 7 S) ∧
    (k0_pay150 (k0_pay27 t a b c p q r s) KE V headMask S = nextState (k0_pay18 t a b c p q r s) KE V 8 S) ∧
    (k0_pay158 (k0_pay28 t a b c p q r s) KE V headMask S = nextState (k0_pay18 t a b c p q r s) KE V 9 S) ∧
    (k0_pay168 headMask S (k0_pay165 KE V) (k0_pay167 (k0_pay29 t a b c p q r s)) = nextState (k0_pay18 t a b c p q r s) KE V 10 S) ∧
    (k0_pay177 (k0_pay30 t a b c p q r s) KE V headMask S = nextState (k0_pay18 t a b c p q r s) KE V 11 S) ∧
    (k0_pay184 (k0_pay31 t a b c p q r s) KE V headMask S = nextState (k0_pay18 t a b c p q r s) KE V 12 S) ∧
    (k0_pay191 (k0_pay32 t a b c p q r s) KE headMask S (k0_pay190 V) = nextState (k0_pay18 t a b c p q r s) KE V 13 S) ∧
    (k0_pay200 (k0_pay33 t a b c p q r s) KE V headMask S = nextState (k0_pay18 t a b c p q r s) KE V 14 S) ∧
    (k0_pay210 (k0_pay34 t a b c p q r s) KE V headMask S = nextState (k0_pay18 t a b c p q r s) KE V 15 S) :=
  ⟨rfl, rfl, rfl, rfl, rfl, rfl, rfl, rfl, rfl, rfl, rfl, rfl, rfl, rfl, rfl, rfl⟩

/-- The states between the chunks. -/
theorem folds (G : FVec Ideal S1024x256 .f32) (KE : FVec Ideal S1024x256 .bf16) (V : Vec Ideal S1024x512 .f32) (S : FVec Ideal S512x256 .f32) :
    (nextState G KE V 0 S = stateAt G KE V S 1) ∧
    (nextState G KE V 1 (stateAt G KE V S 1) = stateAt G KE V S 2) ∧
    (nextState G KE V 2 (stateAt G KE V S 2) = stateAt G KE V S 3) ∧
    (nextState G KE V 3 (stateAt G KE V S 3) = stateAt G KE V S 4) ∧
    (nextState G KE V 4 (stateAt G KE V S 4) = stateAt G KE V S 5) ∧
    (nextState G KE V 5 (stateAt G KE V S 5) = stateAt G KE V S 6) ∧
    (nextState G KE V 6 (stateAt G KE V S 6) = stateAt G KE V S 7) ∧
    (nextState G KE V 7 (stateAt G KE V S 7) = stateAt G KE V S 8) ∧
    (nextState G KE V 8 (stateAt G KE V S 8) = stateAt G KE V S 9) ∧
    (nextState G KE V 9 (stateAt G KE V S 9) = stateAt G KE V S 10) ∧
    (nextState G KE V 10 (stateAt G KE V S 10) = stateAt G KE V S 11) ∧
    (nextState G KE V 11 (stateAt G KE V S 11) = stateAt G KE V S 12) ∧
    (nextState G KE V 12 (stateAt G KE V S 12) = stateAt G KE V S 13) ∧
    (nextState G KE V 13 (stateAt G KE V S 13) = stateAt G KE V S 14) ∧
    (nextState G KE V 14 (stateAt G KE V S 14) = stateAt G KE V S 15) ∧
    (nextState G KE V 15 (stateAt G KE V S 15) = stateAt G KE V S 16) :=
  ⟨rfl, rfl, rfl, rfl, rfl, rfl, rfl, rfl, rfl, rfl, rfl, rfl, rfl, rfl, rfl, rfl⟩

/-- What is stored for each chunk, as the program's text has it. -/
theorem texts (Q : FVec Ideal S1024x256 .bf16) (K : FVec Ideal S1024x256 .f32) (V : Vec Ideal S1024x512 .f32) (X : Vec Ideal S64x512 .f32)
    (nw : FVec Ideal S1x512 .f32) (S : FVec Ideal S512x256 .f32) :
    (k0_pay82 nw (k0_pay78 (k0_pay51 Q K keyMask k0_pay46) (k0_pay74 Q S) (k0_pay76 V valMask)) (k0_pay79 (k0_pay51 Q K keyMask k0_pay46)
      (k0_pay74 Q S) (k0_pay76 V valMask)) (k0_pay80 (k0_pay51 Q K keyMask k0_pay46) (k0_pay74 Q S) (k0_pay76 V valMask)) (k0_pay81 (k0_pay51 Q K
      keyMask k0_pay46) (k0_pay74 Q S) (k0_pay76 V valMask)) X = gated (chunkO Q K V 0 S) nw X) ∧
    (k0_pay90 (k0_pay88 nw (k0_pay85 Q V valMask (k0_pay52 Q K keyMask k0_pay46) S) (k0_pay86 Q V valMask (k0_pay52 Q K keyMask k0_pay46) S)
      (k0_pay87 Q V valMask (k0_pay52 Q K keyMask k0_pay46) S)) (k0_pay89 X) = gated (chunkO Q K V 1 S) nw X) ∧
    (k0_pay98 nw (k0_pay93 Q V valMask (k0_pay53 Q K keyMask k0_pay46) S) (k0_pay94 Q V valMask (k0_pay53 Q K keyMask k0_pay46) S) (k0_pay95 Q V
      valMask (k0_pay53 Q K keyMask k0_pay46) S) (k0_pay96 Q V valMask (k0_pay53 Q K keyMask k0_pay46) S) (k0_pay97 Q V valMask (k0_pay53 Q K
      keyMask k0_pay46) S) X = gated (chunkO Q K V 2 S) nw X) ∧
    (k0_pay110 nw (k0_pay105 valMask (k0_pay54 Q K keyMask k0_pay46) (k0_pay99 V) (k0_pay101 Q S)) (k0_pay106 valMask (k0_pay54 Q K keyMask
      k0_pay46) (k0_pay99 V) (k0_pay101 Q S)) (k0_pay107 valMask (k0_pay54 Q K keyMask k0_pay46) (k0_pay99 V) (k0_pay101 Q S)) (k0_pay108 valMask
      (k0_pay54 Q K keyMask k0_pay46) (k0_pay99 V) (k0_pay101 Q S)) (k0_pay109 valMask (k0_pay54 Q K keyMask k0_pay46) (k0_pay99 V) (k0_pay101 Q
      S)) X = gated (chunkO Q K V 3 S) nw X) ∧
    (k0_pay118 (k0_pay116 nw (k0_pay113 Q V valMask (k0_pay57 Q keyMask k0_pay46 (k0_pay55 K) k0_pay56) S) (k0_pay114 Q V valMask (k0_pay57 Q
      keyMask k0_pay46 (k0_pay55 K) k0_pay56) S) (k0_pay115 Q V valMask (k0_pay57 Q keyMask k0_pay46 (k0_pay55 K) k0_pay56) S)) X k0_pay117 =
      gated (chunkO Q K V 4 S) nw X) ∧
    (k0_pay126 nw (k0_pay121 Q V valMask (k0_pay58 Q K keyMask k0_pay46) S) (k0_pay122 Q V valMask (k0_pay58 Q K keyMask k0_pay46) S) (k0_pay123
      Q V valMask (k0_pay58 Q K keyMask k0_pay46) S) (k0_pay124 Q V valMask (k0_pay58 Q K keyMask k0_pay46) S) k0_pay125 X = gated (chunkO Q K V
      5 S) nw X) ∧
    (k0_pay136 nw (k0_pay130 Q valMask (k0_pay59 Q K keyMask k0_pay46) S (k0_pay127 V)) (k0_pay131 Q valMask (k0_pay59 Q K keyMask k0_pay46) S
      (k0_pay127 V)) (k0_pay132 Q valMask (k0_pay59 Q K keyMask k0_pay46) S (k0_pay127 V)) (k0_pay133 Q valMask (k0_pay59 Q K keyMask k0_pay46) S
      (k0_pay127 V)) (k0_pay134 Q valMask (k0_pay59 Q K keyMask k0_pay46) S (k0_pay127 V)) k0_pay135 X = gated (chunkO Q K V 6 S) nw X) ∧
    (k0_pay148 nw (k0_pay143 valMask (k0_pay60 Q K keyMask k0_pay46) (k0_pay138 Q S) (k0_pay140 V) k0_pay141) (k0_pay144 valMask (k0_pay60 Q K
      keyMask k0_pay46) (k0_pay138 Q S) (k0_pay140 V) k0_pay141) (k0_pay145 valMask (k0_pay60 Q K keyMask k0_pay46) (k0_pay138 Q S) (k0_pay140 V)
      k0_pay141) (k0_pay146 valMask (k0_pay60 Q K keyMask k0_pay46) (k0_pay138 Q S) (k0_pay140 V) k0_pay141) (k0_pay147 valMask (k0_pay60 Q K
      keyMask k0_pay46) (k0_pay138 Q S) (k0_pay140 V) k0_pay141) X = gated (chunkO Q K V 7 S) nw X) ∧
    (k0_pay156 (k0_pay154 nw (k0_pay151 Q V valMask (k0_pay62 (k0_pay61 Q K keyMask k0_pay46)) S) (k0_pay152 Q V valMask (k0_pay62 (k0_pay61 Q K
      keyMask k0_pay46)) S) (k0_pay153 Q V valMask (k0_pay62 (k0_pay61 Q K keyMask k0_pay46)) S)) X (k0_pay155 X) = gated (chunkO Q K V 8 S) nw
      X) ∧
    (k0_pay163 nw (k0_pay159 Q V valMask (k0_pay63 Q K keyMask k0_pay46) S) (k0_pay160 Q V valMask (k0_pay63 Q K keyMask k0_pay46) S) (k0_pay161
      Q V valMask (k0_pay63 Q K keyMask k0_pay46) S) (k0_pay162 Q V valMask (k0_pay63 Q K keyMask k0_pay46) S) X = gated (chunkO Q K V 9 S) nw X) ∧
    (k0_pay175 nw (k0_pay170 valMask (k0_pay64 Q K keyMask k0_pay46) (k0_pay164 V) (k0_pay166 Q S)) (k0_pay171 valMask (k0_pay64 Q K keyMask
      k0_pay46) (k0_pay164 V) (k0_pay166 Q S)) (k0_pay172 valMask (k0_pay64 Q K keyMask k0_pay46) (k0_pay164 V) (k0_pay166 Q S)) (k0_pay173
      valMask (k0_pay64 Q K keyMask k0_pay46) (k0_pay164 V) (k0_pay166 Q S)) (k0_pay174 valMask (k0_pay64 Q K keyMask k0_pay46) (k0_pay164 V)
      (k0_pay166 Q S)) X = gated (chunkO Q K V 10 S) nw X) ∧
    (k0_pay182 (k0_pay181 nw (k0_pay178 Q V valMask (k0_pay65 Q K keyMask k0_pay46) S) (k0_pay179 Q V valMask (k0_pay65 Q K keyMask k0_pay46) S)
      (k0_pay180 Q V valMask (k0_pay65 Q K keyMask k0_pay46) S)) X (FloatOps.ofBits (F := Ideal) FTy.f32 0#32) = gated (chunkO Q K V 11 S) nw X) ∧
    (k0_pay189 nw (k0_pay185 Q V valMask (k0_pay66 Q K keyMask k0_pay46) S) (k0_pay186 Q V valMask (k0_pay66 Q K keyMask k0_pay46) S) (k0_pay187
      Q V valMask (k0_pay66 Q K keyMask k0_pay46) S) (k0_pay188 Q V valMask (k0_pay66 Q K keyMask k0_pay46) S) (FloatOps.ofBits (F := Ideal) FTy.f32
      1124073472#32) X = gated (chunkO Q K V 12 S) nw X) ∧
    (k0_pay197 nw (k0_pay192 Q valMask (k0_pay69 k0_pay46 (k0_pay67 Q) (k0_pay68 K keyMask)) S (k0_pay190 V)) (k0_pay193 Q valMask (k0_pay69
      k0_pay46 (k0_pay67 Q) (k0_pay68 K keyMask)) S (k0_pay190 V)) (k0_pay194 Q valMask (k0_pay69 k0_pay46 (k0_pay67 Q) (k0_pay68 K keyMask)) S
      (k0_pay190 V)) (k0_pay195 Q valMask (k0_pay69 k0_pay46 (k0_pay67 Q) (k0_pay68 K keyMask)) S (k0_pay190 V)) (k0_pay196 Q valMask (k0_pay69
      k0_pay46 (k0_pay67 Q) (k0_pay68 K keyMask)) S (k0_pay190 V)) (FloatOps.ofBits (F := Ideal) FTy.f32 897988541#32) X = gated (chunkO Q K V 13 S) nw X) ∧
    (k0_pay208 nw (k0_pay203 valMask (k0_pay70 Q K keyMask k0_pay46) (k0_pay199 Q S) (k0_pay201 V) (FloatOps.ofBits (F := Ideal) FTy.f32 0#32)) (k0_pay204
      valMask (k0_pay70 Q K keyMask k0_pay46) (k0_pay199 Q S) (k0_pay201 V) (FloatOps.ofBits (F := Ideal) FTy.f32 0#32)) (k0_pay205 valMask (k0_pay70 Q K
      keyMask k0_pay46) (k0_pay199 Q S) (k0_pay201 V) (FloatOps.ofBits (F := Ideal) FTy.f32 0#32)) (k0_pay206 valMask (k0_pay70 Q K keyMask k0_pay46)
      (k0_pay199 Q S) (k0_pay201 V) (FloatOps.ofBits (F := Ideal) FTy.f32 0#32)) (k0_pay207 valMask (k0_pay70 Q K keyMask k0_pay46) (k0_pay199 Q S) (k0_pay201
      V) (FloatOps.ofBits (F := Ideal) FTy.f32 0#32)) X = gated (chunkO Q K V 14 S) nw X) ∧
    (k0_pay1 (k0_pay214 nw (k0_pay211 Q V valMask (k0_pay71 Q K keyMask k0_pay46) S) (k0_pay212 Q V valMask (k0_pay71 Q K keyMask k0_pay46) S)
      (k0_pay213 Q V valMask (k0_pay71 Q K keyMask k0_pay46) S)) X (k0_pay215 X) k0_pay216 = gated (chunkO Q K V 15 S) nw X) :=
  ⟨rfl, rfl, rfl, rfl, rfl, rfl, rfl, rfl, rfl, rfl, rfl, rfl, rfl, rfl, rfl, rfl⟩

/-- The sixteen stores together leave the block. -/
theorem stores_out (Q : FVec Ideal S1024x256 .bf16) (K : FVec Ideal S1024x256 .f32) (G : FVec Ideal S1024x256 .f32)
    (KE : FVec Ideal S1024x256 .bf16) (V X : Vec Ideal S1024x512 .f32) (nw : FVec Ideal S1x512 .f32) (S : FVec Ideal S512x256 .f32) :
    View.canon (Val := Elt Ideal) (s := S1024x512) (e := .bf16)
      [⟨Rect.unit (s := S1024x512) ![960, 0] ![64, 512] inb_S1024x512_S64x512_960_0, piece Q K G KE V X nw S 15⟩,
       ⟨Rect.unit (s := S1024x512) ![896, 0] ![64, 512] inb_S1024x512_S64x512_896_0, piece Q K G KE V X nw S 14⟩,
       ⟨Rect.unit (s := S1024x512) ![832, 0] ![64, 512] inb_S1024x512_S64x512_832_0, piece Q K G KE V X nw S 13⟩,
       ⟨Rect.unit (s := S1024x512) ![768, 0] ![64, 512] inb_S1024x512_S64x512_768_0, piece Q K G KE V X nw S 12⟩,
       ⟨Rect.unit (s := S1024x512) ![704, 0] ![64, 512] inb_S1024x512_S64x512_704_0, piece Q K G KE V X nw S 11⟩,
       ⟨Rect.unit (s := S1024x512) ![640, 0] ![64, 512] inb_S1024x512_S64x512_640_0, piece Q K G KE V X nw S 10⟩,
       ⟨Rect.unit (s := S1024x512) ![576, 0] ![64, 512] inb_S1024x512_S64x512_576_0, piece Q K G KE V X nw S 9⟩,
       ⟨Rect.unit (s := S1024x512) ![512, 0] ![64, 512] inb_S1024x512_S64x512_512_0, piece Q K G KE V X nw S 8⟩,
       ⟨Rect.unit (s := S1024x512) ![448, 0] ![64, 512] inb_S1024x512_S64x512_448_0, piece Q K G KE V X nw S 7⟩,
       ⟨Rect.unit (s := S1024x512) ![384, 0] ![64, 512] inb_S1024x512_S64x512_384_0, piece Q K G KE V X nw S 6⟩,
       ⟨Rect.unit (s := S1024x512) ![320, 0] ![64, 512] inb_S1024x512_S64x512_320_0, piece Q K G KE V X nw S 5⟩,
       ⟨Rect.unit (s := S1024x512) ![256, 0] ![64, 512] inb_S1024x512_S64x512_256_0, piece Q K G KE V X nw S 4⟩,
       ⟨Rect.unit (s := S1024x512) ![192, 0] ![64, 512] inb_S1024x512_S64x512_192_0, piece Q K G KE V X nw S 3⟩,
       ⟨Rect.unit (s := S1024x512) ![128, 0] ![64, 512] inb_S1024x512_S64x512_128_0, piece Q K G KE V X nw S 2⟩,
       ⟨Rect.unit (s := S1024x512) ![64, 0] ![64, 512] inb_S1024x512_S64x512_64_0, piece Q K G KE V X nw S 1⟩,
       ⟨Rect.unit (s := S1024x512) ![0, 0] ![64, 512] inb_S1024x512_S64x512_0_0, piece Q K G KE V X nw S 0⟩] = blockOut Q K G KE V X nw S := by
  have key : ∀ (p : Fin 16) (x : S64x512.Idx) (y : S1024x512.Idx), (y 0).val = 64 * p.val + (x 0).val → (y 1).val = (x 1).val →
      piece Q K G KE V X nw S p x = blockOut Q K G KE V X nw S y := by
    intro p x y h0 h1
    have hx : (x 0).val < 64 := (x 0).isLt
    have hy : (y 0).val < 1024 := (y 0).isLt
    unfold blockOut
    have hp : (⟨(y 0).val / 64, by omega⟩ : Fin 16) = p := Fin.ext (show (y 0).val / 64 = p.val by omega)
    have hi : (ix2 ⟨(y 0).val % 64, Nat.mod_lt _ (by decide)⟩ (y 1) : S64x512.Idx) = x := by
      funext a
      fin_cases a
      · exact Fin.ext (show (y 0).val % 64 = (x 0).val by omega)
      · exact Fin.ext h1
    rw [hp, hi]
  funext y
  canon_tiles x h
  exacts [key 15 x y h0 h1, key 14 x y h0 h1, key 13 x y h0 h1, key 12 x y h0 h1, key 11 x y h0 h1, key 10 x y h0 h1, key 9 x y h0 h1, key 8 x y h0 h1, key 7 x y h0 h1, key 6 x y h0 h1, key 5 x y h0 h1, key 4 x y h0 h1, key 3 x y h0 h1, key 2 x y h0 h1, key 1 x y h0 h1, key 0 x y (by rw [h0]; exact (Nat.zero_add _).symm) h1]

/-- The state is stored as it is. -/
theorem store_state (S : FVec Ideal S512x256 .f32) : k0_pay2 S = S := by
  funext i
  pointwise [k0_pay2]

/-- The log-decays of a point's block. -/
noncomputable def logs (c : Dev nD) (t : Fin cfg0.N) : FVec Ideal S1024x256 .f32 :=
  k0_pay5 (iblk m c 3 t) (iblk m c 5 t) (iblk m c 6 t)

/-- The block of outputs a point leaves, from the state it starts from. -/
noncomputable def outOf (c : Dev nD) (t : Fin cfg0.N) (S : FVec Ideal S512x256 .f32) : Vec Ideal S1024x512 .bf16 :=
  blockOut (k0_pay36 (cum (logs m c t)) (iblk m c 0 t)) (k0_pay37 (cum (logs m c t)) (iblk m c 1 t)) (cum (logs m c t))
    (k0_pay38 (cum (logs m c t)) (ends (logs m c t)) (iblk m c 1 t)) (iblk m c 2 t) (iblk m c 4 t) (k0_pay72 (iblk m c 7 t)) S

/-- The state a point leaves, from the state it starts from. -/
noncomputable def stateOf (c : Dev nD) (t : Fin cfg0.N) (S : FVec Ideal S512x256 .f32) : FVec Ideal S512x256 .f32 :=
  stateAt (cum (logs m c t)) (k0_pay38 (cum (logs m c t)) (ends (logs m c t)) (iblk m c 1 t)) (iblk m c 2 t) S 16

/-- The outputs of a batch's first point. -/
theorem step_o_first (c : Dev nD) (t : Fin cfg0.N) (h0 : t.val % 8 = 0) :
    (outsAt0 m c t.val t.isLt).1 = outOf m c t k0_pay4 := by
  rw [outsAt0_A m c t h0]
  frame_open
  simp (disch := decide) only [↓ View.readCov_skip, ↓ View.readCov_cons_toLoadRect, ↓ View.readCov_fill]
  frame_out
  unfold outOf logs
  generalize k0_pay5 (iblk m c 3 t) (iblk m c 5 t) (iblk m c 6 t) = L
  rw [show iota .tc S256x256 32 [0] iota_S256x256_d0_w32 = rows0 from rfl, show k0_pay8 rows0 64#32 k0_pay6 k0_pay7 = sameChunk from rfl,
    show k0_pay9 sameChunk rows0 = tri from rfl,
    show k0_pay50 (k0_pay47 (iota .tc S512x256 32 [0] iota_S512x256_d0_w32)) k0_pay48 k0_pay49 1#32 = headMask from rfl]
  rw [show k0_pay41 k0_pay39 (iota .tc S256x256 32 [1] iota_S256x256_d1_w32) 64#32 k0_pay40 = keyMask from rfl,
    show k0_pay45 k0_pay42 k0_pay43 k0_pay44 = valMask from rfl]
  simp only [updates, read_unread_whole]
  rw [show k0_pay18 tri (k0_pay10 L sameChunk rows0) (k0_pay11 L sameChunk rows0) (k0_pay12 L sameChunk rows0) (k0_pay14 L) (k0_pay15 L) (k0_pay16 L) (k0_pay17 L) = cum L from rfl,
    show k0_pay35 tri (k0_pay10 L sameChunk rows0) (k0_pay11 L sameChunk rows0) (k0_pay12 L sameChunk rows0) (k0_pay14 L) (k0_pay15 L) (k0_pay16 L) (k0_pay17 L) = ends L from rfl]
  simp only [folds, texts]
  exact stores_out _ _ _ _ _ _ _ _

/-- The outputs of a later point. -/
theorem step_o_next (c : Dev nD) (t : Fin cfg0.N) (h0 : ¬t.val % 8 = 0) :
    (outsAt0 m c t.val t.isLt).1 = outOf m c t (outsAt0 m c (t.val - 1) (by omega)).2.2 := by
  rw [outsAt0_B m c t h0]
  frame_open
  simp (disch := decide) only [↓ View.readCov_skip, ↓ View.readCov_cons_toLoadRect, ↓ View.readCov_fill]
  frame_out
  unfold outOf logs
  generalize k0_pay5 (iblk m c 3 t) (iblk m c 5 t) (iblk m c 6 t) = L
  rw [show iota .tc S256x256 32 [0] iota_S256x256_d0_w32 = rows0 from rfl, show k0_pay8 rows0 64#32 k0_pay6 k0_pay7 = sameChunk from rfl,
    show k0_pay9 sameChunk rows0 = tri from rfl,
    show k0_pay50 (k0_pay47 (iota .tc S512x256 32 [0] iota_S512x256_d0_w32)) k0_pay48 k0_pay49 1#32 = headMask from rfl]
  rw [show k0_pay41 k0_pay39 (iota .tc S256x256 32 [1] iota_S256x256_d1_w32) 64#32 k0_pay40 = keyMask from rfl,
    show k0_pay45 k0_pay42 k0_pay43 k0_pay44 = valMask from rfl]
  simp only [updates, read_unread_whole]
  rw [show k0_pay18 tri (k0_pay10 L sameChunk rows0) (k0_pay11 L sameChunk rows0) (k0_pay12 L sameChunk rows0) (k0_pay14 L) (k0_pay15 L) (k0_pay16 L) (k0_pay17 L) = cum L from rfl,
    show k0_pay35 tri (k0_pay10 L sameChunk rows0) (k0_pay11 L sameChunk rows0) (k0_pay12 L sameChunk rows0) (k0_pay14 L) (k0_pay15 L) (k0_pay16 L) (k0_pay17 L) = ends L from rfl]
  simp only [folds, texts]
  exact stores_out _ _ _ _ _ _ _ _

/-- The state after a batch's first point. -/
theorem step_s_first (c : Dev nD) (t : Fin cfg0.N) (h0 : t.val % 8 = 0) :
    (outsAt0 m c t.val t.isLt).2.2 = stateOf m c t k0_pay4 := by
  rw [outsAt0_A m c t h0]
  frame_open
  simp (disch := decide) only [↓ View.readCov_skip, ↓ View.readCov_cons_toLoadRect, ↓ View.readCov_fill]
  frame_out
  unfold stateOf logs
  generalize k0_pay5 (iblk m c 3 t) (iblk m c 5 t) (iblk m c 6 t) = L
  rw [show iota .tc S256x256 32 [0] iota_S256x256_d0_w32 = rows0 from rfl, show k0_pay8 rows0 64#32 k0_pay6 k0_pay7 = sameChunk from rfl,
    show k0_pay9 sameChunk rows0 = tri from rfl,
    show k0_pay50 (k0_pay47 (iota .tc S512x256 32 [0] iota_S512x256_d0_w32)) k0_pay48 k0_pay49 1#32 = headMask from rfl]
  simp only [updates, read_unread_whole]
  rw [show k0_pay18 tri (k0_pay10 L sameChunk rows0) (k0_pay11 L sameChunk rows0) (k0_pay12 L sameChunk rows0) (k0_pay14 L) (k0_pay15 L) (k0_pay16 L) (k0_pay17 L) = cum L from rfl,
    show k0_pay35 tri (k0_pay10 L sameChunk rows0) (k0_pay11 L sameChunk rows0) (k0_pay12 L sameChunk rows0) (k0_pay14 L) (k0_pay15 L) (k0_pay16 L) (k0_pay17 L) = ends L from rfl]
  simp only [folds, store_state]

/-- The state after a later point. -/
theorem step_s_next (c : Dev nD) (t : Fin cfg0.N) (h0 : ¬t.val % 8 = 0) :
    (outsAt0 m c t.val t.isLt).2.2 = stateOf m c t (outsAt0 m c (t.val - 1) (by omega)).2.2 := by
  rw [outsAt0_B m c t h0]
  frame_open
  simp (disch := decide) only [↓ View.readCov_skip, ↓ View.readCov_cons_toLoadRect, ↓ View.readCov_fill]
  frame_out
  unfold stateOf logs
  generalize k0_pay5 (iblk m c 3 t) (iblk m c 5 t) (iblk m c 6 t) = L
  rw [show iota .tc S256x256 32 [0] iota_S256x256_d0_w32 = rows0 from rfl, show k0_pay8 rows0 64#32 k0_pay6 k0_pay7 = sameChunk from rfl,
    show k0_pay9 sameChunk rows0 = tri from rfl,
    show k0_pay50 (k0_pay47 (iota .tc S512x256 32 [0] iota_S512x256_d0_w32)) k0_pay48 k0_pay49 1#32 = headMask from rfl]
  simp only [updates, read_unread_whole]
  rw [show k0_pay18 tri (k0_pay10 L sameChunk rows0) (k0_pay11 L sameChunk rows0) (k0_pay12 L sameChunk rows0) (k0_pay14 L) (k0_pay15 L) (k0_pay16 L) (k0_pay17 L) = cum L from rfl,
    show k0_pay35 tri (k0_pay10 L sameChunk rows0) (k0_pay11 L sameChunk rows0) (k0_pay12 L sameChunk rows0) (k0_pay14 L) (k0_pay15 L) (k0_pay16 L) (k0_pay17 L) = ends L from rfl]
  simp only [folds, store_state]

/-- The table's block is the argument's. -/
theorem step_table (c : Dev nD) (t : Fin cfg0.N) : (outsAt0 m c t.val t.isLt).2.1 = k0_pay3 (iblk m c 8 t) := by
  by_cases h0 : t.val % 8 = 0
  · rw [outsAt0_A m c t h0]
    frame_open
    frame_out
  · rw [outsAt0_B m c t h0]
    frame_open
    frame_out

end Cert.Proof.Gla
-- ==== Proof.GlaFinal.lean ====
/- THE RESULT ARRAYS of the gated linear attention: a grid point is 1024 tokens of one batch, sixteen chunks; the state carried over a batch's
   eight points is the sum over the chunks before. -/
module

public import proofs.«01_k».proof.Proof.GlaSpec
public import proofs.«01_k».proof.Proof.GlaStep
public import Idealize.ShloMosaic.Lib.StableHlo.Run

@[expose] public section

set_option maxRecDepth 16384

namespace Cert.Proof.Gla

open Cert.GlaIdeal Cert.GlaIdeal.Gen
open Idealize.ShloMosaic Idealize.ShloMosaic.TcCoe
open Idealize.ShloMosaic.Pointwise

/-- The token of batch `B`'s chunk `C`, row `i`. -/
def tok (B : Fin 2) (C : Fin 128) (i : Fin 64) : Fin 16384 := ⟨8192 * B.val + 64 * C.val + i.val, by omega⟩

/-- Lane `d` of head `h`'s keys. -/
def klane (h : Fin 4) (d : Fin 64) : Fin 256 := ⟨64 * h.val + d.val, by omega⟩

/-- Lane `w` of head `h`'s values. -/
def vlane (h : Fin 4) (w : Fin 128) : Fin 512 := ⟨128 * h.val + w.val, by omega⟩

/-- Head `h` of batch `B`, from the arrays: the log-decays are those of the gate's sixteen lanes against the second gate weight, plus its bias. -/
noncomputable def headOf (q k : Vec Ideal S16384x256 .f32) (v : Vec Ideal S16384x512 .f32) (lr : Vec Ideal S16384x128 .f32)
    (W : Vec Ideal S1x16x256 .f32) (b : Vec Ideal S1x256 .f32) (B : Fin 2) (h : Fin 4) : Head where
  q C i d := q (ix2 (tok B C i) (klane h d))
  k C i d := k (ix2 (tok B C i) (klane h d))
  v C i w := v (ix2 (tok B C i) (vlane h w))
  la C i d := decayOf (∑ x : Fin 16, lr (ix2 (tok B C i) ⟨x.val, by omega⟩) * W (ix3 0 x (klane h d)) + b (ix2 0 (klane h d)))

theorem headOf_last_ne_top (q k : Vec Ideal S16384x256 .f32) (v : Vec Ideal S16384x512 .f32) (lr : Vec Ideal S16384x128 .f32)
    (W : Vec Ideal S1x16x256 .f32) (b : Vec Ideal S1x256 .f32) (B : Fin 2) (h : Fin 4) (C : Fin 128) (d : Fin 64) :
    (headOf q k v lr W b B h).last C d ≠ ⊤ :=
  sum_ne_top (fun s : Fin 64 => if s.val ≤ (63 : Fin 64).val then (headOf q k v lr W b B h).la C s d else 0) fun s => by
    split_ifs
    exacts [decayOf_ne_top _, EReal.zero_ne_top]

/-- Token `r`'s output at lane `j`. -/
noncomputable def attn (q k : Vec Ideal S16384x256 .f32) (v : Vec Ideal S16384x512 .f32) (lr : Vec Ideal S16384x128 .f32)
    (x : Vec Ideal S16384x512 .f32) (W : Vec Ideal S1x16x256 .f32) (b : Vec Ideal S1x256 .f32) (nw : Vec Ideal S1x128 .f32)
    (r : Fin 16384) (j : Fin 512) : EReal :=
  (headOf q k v lr W b ⟨r.val / 8192, by omega⟩ ⟨j.val / 128, by omega⟩).res ⟨r.val % 8192 / 64, by omega⟩ ⟨r.val % 64, by omega⟩
    ⟨j.val % 128, by omega⟩ (nw (ix2 0 ⟨j.val % 128, by omega⟩)) (x (ix2 r j))

theorem attn_at (q k : Vec Ideal S16384x256 .f32) (v : Vec Ideal S16384x512 .f32) (lr : Vec Ideal S16384x128 .f32)
    (x : Vec Ideal S16384x512 .f32) (W : Vec Ideal S1x16x256 .f32) (b : Vec Ideal S1x256 .f32) (nw : Vec Ideal S1x128 .f32)
    (B : Fin 2) (C : Fin 128) (i : Fin 64) (h : Fin 4) (w : Fin 128) :
    attn q k v lr x W b nw (tok B C i) (vlane h w)
      = (headOf q k v lr W b B h).res C i w (nw (ix2 0 w)) (x (ix2 (tok B C i) (vlane h w))) := by
  unfold attn
  have e1 : (⟨(tok B C i).val / 8192, by omega⟩ : Fin 2) = B := Fin.ext (by show (8192 * B.val + 64 * C.val + i.val) / 8192 = B.val; omega)
  have e2 : (⟨(vlane h w).val / 128, by omega⟩ : Fin 4) = h := Fin.ext (by show (128 * h.val + w.val) / 128 = h.val; omega)
  have e3 : (⟨(tok B C i).val % 8192 / 64, by omega⟩ : Fin 128) = C := Fin.ext (by show (8192 * B.val + 64 * C.val + i.val) % 8192 / 64 = C.val; omega)
  have e4 : (⟨(tok B C i).val % 64, by omega⟩ : Fin 64) = i := Fin.ext (by show (8192 * B.val + 64 * C.val + i.val) % 64 = i.val; omega)
  have e5 : (⟨(vlane h w).val % 128, by omega⟩ : Fin 128) = w := Fin.ext (by show (128 * h.val + w.val) % 128 = w.val; omega)
  rw [e1, e2, e3, e4, e5]

/-! ## The payloads at one entry -/

theorem gated_apply (O : FVec Ideal S64x512 .f32) (nw : FVec Ideal S1x512 .f32) (X : Vec Ideal S64x512 .f32) (i : Fin 64) (h : Fin 4) (w : Fin 128) :
    gated O nw X (ix2 i (vlane h w)) =
      O (ix2 i (vlane h w)) * Ideal.rsqrt (Ideal.div (∑ u : Fin 128, O (ix2 i (vlane h u)) * O (ix2 i (vlane h u))) (Ideal.ofBits .f32 0x43000000#32)
        + Ideal.ofBits .f32 0x358637BD#32) * nw (ix2 0 (vlane h w))
        * (X (ix2 i (vlane h w)) * Ideal.div 1 (1 + Ideal.exp (0 - X (ix2 i (vlane h w))))) := by
  have hb := beside_apply (headNorm O) i h w
  unfold vlane
  pointwise [gated, swish]
  rw [hb]
  pointwise [headNorm]

theorem pay36_apply (G : FVec Ideal S1024x256 .f32) (q : Vec Ideal S1024x256 .f32) (i : S1024x256.Idx) :
    k0_pay36 G q i = q i * Ideal.ofBits .f32 0x3E000000#32 * Ideal.exp (G i) := rfl

theorem pay37_apply (G : FVec Ideal S1024x256 .f32) (k : Vec Ideal S1024x256 .f32) (i : S1024x256.Idx) :
    k0_pay37 G k i = k i * Ideal.exp (0 - G i) := by
  show k i * Ideal.exp (Ideal.ofBits .f32 0#32 - G i) = _
  rw [Ideal.ofBits_zero_f32]

theorem pay38_apply (G E : FVec Ideal S1024x256 .f32) (k : Vec Ideal S1024x256 .f32) (i : S1024x256.Idx) :
    k0_pay38 G E k i = k i * Ideal.exp (E i - G i) := rfl

theorem pay72_apply (nw : Vec Ideal S1x128 .f32) (h : Fin 4) (w : Fin 128) : k0_pay72 nw (ix2 0 (vlane h w)) = nw (ix2 0 w) := by
  trans shapeCast S1x128 nw shapeCasts_S1x128_S1x128 (ix2 0 w)
  · refine Idealize.ShloMosaic.concatenate_ofFn_apply 1 (fun _ : Fin 4 => shapeCast S1x128 nw shapeCasts_S1x128_S1x128)
      concatenates_S1x128_S1x128_S1x128_S1x128_S1x512_d1 rfl 128 rfl (ix2 0 (vlane h w)) h ?_ (ix2 0 w) ?_ ?_
    · show (128 * h.val + w.val) / 128 = h.val
      omega
    · show w.val = (128 * h.val + w.val) % 128
      omega
    · intro b hb
      fin_cases b
      · rfl
      · exact absurd rfl hb
  · pointwise

theorem pay4_apply (i : S512x256.Idx) : k0_pay4 (F := Ideal) i = 0 := by
  idx_vars i
  pointwise [k0_pay4]

theorem pay3_apply (x : Vec Ideal S1024x1024 .f32) (i j : Fin 1024) : k0_pay3 x (ix2 i j) = x (ix2 i j) := by
  pointwise [k0_pay3]

variable (m : (ℓ : Loc nD τ sig) → Buf (Elt Ideal) ℓ)

/-! ## Where a point's blocks sit in the arrays -/

theorem idx_in : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

theorem idx_out : ∀ t : Fin cfg0.N, win0_9.index t = ![t.val, 0] ∧ win0_10.index t = ![t.val, 0] :=
  (by decide +kernel : ∀ t : Fin grid0.N, _)

/-- There are 16 grid points. -/
theorem point_lt (t : Fin cfg0.N) : t.val < 16 := t.isLt.trans_eq N_0

/-- The batch of a point. -/
def batchOf (t : Fin cfg0.N) : Fin 2 := ⟨t.val / 8, by have := point_lt t; omega⟩

/-- Chunk `a` of a point, among its batch's. -/
def chunkOf (t : Fin cfg0.N) (a : Fin 16) : Fin 128 := ⟨16 * (t.val % 8) + a.val, by omega⟩

/-- Row `i` of chunk `a` in a point's block. -/
def row (a : Fin 16) (i : Fin 64) : Fin 1024 := ⟨64 * a.val + i.val, by omega⟩

theorem tok_val (t : Fin cfg0.N) (a : Fin 16) (i : Fin 64) : (tok (batchOf t) (chunkOf t a) i).val = 1024 * t.val + (row a i).val := by
  show 8192 * (t.val / 8) + 64 * (16 * (t.val % 8) + a.val) + i.val = 1024 * t.val + (64 * a.val + i.val)
  omega

theorem token_eq (t : Fin cfg0.N) (a : Fin 16) (i : Fin 64) (h : 1024 * t.val + (row a i).val < 16384) :
    (⟨1024 * t.val + (row a i).val, h⟩ : Fin 16384) = tok (batchOf t) (chunkOf t a) i :=
  Fin.ext (tok_val t a i).symm

/-- Token `r` of point `t`'s block. -/
def token (t : Fin cfg0.N) (r : Fin 1024) : Fin 16384 := ⟨1024 * t.val + r.val, by have := point_lt t; omega⟩

theorem token_row (t : Fin cfg0.N) (a : Fin 16) (i : Fin 64) : token t (row a i) = tok (batchOf t) (chunkOf t a) i :=
  Fin.ext (tok_val t a i).symm

theorem V_W (c : Dev nD) (x : Fin 128) (d : Fin 256) : V m c main_v1 (ix2 x d)
    = if h : x.val < 16 then m ((c : Thread nD τ).loc main_arg5) (ix3 0 ⟨x.val, h⟩ d) else (0 : EReal) := by
  show StableHlo.after _ _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  pointwise
  refine dite_congr rfl (fun _ => rfl) fun _ => ?_
  show (((0#32 : BitVec 32).toInt : ℝ) : EReal) = 0
  simp

theorem V_b (c : Dev nD) (d : Fin 256) : V m c main_v3 (ix2 0 d) = m ((c : Thread nD τ).loc main_arg6) (ix2 0 d) := by
  show StableHlo.after _ _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  pointwise

theorem V_nw (c : Dev nD) (d : Fin 128) : V m c main_v5 (ix2 0 d) = m ((c : Thread nD τ).loc main_arg7) (ix2 0 d) := by
  show StableHlo.after _ _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  pointwise

theorem V_u (c : Dev nD) (r : Fin 16384) (k : Fin 1024) : V m c main_v6 (ix2 r k) = m ((c : Thread nD τ).loc main_arg8) (ix3 0 r k) := by
  show StableHlo.after _ _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  pointwise

theorem blk_q (c : Dev nD) (t : Fin cfg0.N) (r : Fin 1024) (l : Fin 256) :
    iblk m c 0 t (ix2 r l) = m ((c : Thread nD τ).loc main_arg0) (ix2 (token t r) l) := by
  obtain ⟨e, -⟩ := idx_in t
  rw [← V_main_arg0 m c]
  unfold token
  blk_ext [iblk, e]

theorem blk_k (c : Dev nD) (t : Fin cfg0.N) (r : Fin 1024) (l : Fin 256) :
    iblk m c 1 t (ix2 r l) = m ((c : Thread nD τ).loc main_arg1) (ix2 (token t r) l) := by
  obtain ⟨-, e, -⟩ := idx_in t
  rw [← V_main_arg1 m c]
  unfold token
  blk_ext [iblk, e]

theorem blk_v (c : Dev nD) (t : Fin cfg0.N) (r : Fin 1024) (l : Fin 512) :
    iblk m c 2 t (ix2 r l) = m ((c : Thread nD τ).loc main_arg2) (ix2 (token t r) l) := by
  obtain ⟨-, -, e, -⟩ := idx_in t
  rw [← V_main_arg2 m c]
  unfold token
  blk_ext [iblk, e]

theorem blk_lr (c : Dev nD) (t : Fin cfg0.N) (r : Fin 1024) (l : Fin 128) :
    iblk m c 3 t (ix2 r l) = m ((c : Thread nD τ).loc main_arg3) (ix2 (token t r) l) := by
  obtain ⟨-, -, -, e, -⟩ := idx_in t
  rw [← V_main_arg3 m c]
  unfold token
  blk_ext [iblk, e]

theorem blk_x (c : Dev nD) (t : Fin cfg0.N) (r : Fin 1024) (l : Fin 512) :
    iblk m c 4 t (ix2 r l) = m ((c : Thread nD τ).loc main_arg4) (ix2 (token t r) l) := by
  obtain ⟨-, -, -, -, e, -⟩ := idx_in t
  rw [← V_main_arg4 m c]
  unfold token
  blk_ext [iblk, e]

theorem blk_W (c : Dev nD) (t : Fin cfg0.N) (x : Fin 128) (d : Fin 256) : iblk m c 5 t (ix2 x d) = V m c main_v1 (ix2 x d) := by
  obtain ⟨-, -, -, -, -, e, -⟩ := idx_in t
  blk_ext [iblk, e]

theorem blk_b (c : Dev nD) (t : Fin cfg0.N) (d : Fin 256) : iblk m c 6 t (ix2 0 d) = V m c main_v3 (ix2 0 d) := by
  obtain ⟨-, -, -, -, -, -, e, -⟩ := idx_in t
  blk_ext [iblk, e]

theorem blk_nw (c : Dev nD) (t : Fin cfg0.N) (d : Fin 128) : iblk m c 7 t (ix2 0 d) = V m c main_v5 (ix2 0 d) := by
  obtain ⟨-, -, -, -, -, -, -, e, -⟩ := idx_in t
  blk_ext [iblk, e]

theorem blk_u (c : Dev nD) (t : Fin cfg0.N) (r : Fin 1024) (k : Fin 1024) : iblk m c 8 t (ix2 r k) = V m c main_v6 (ix2 (token t r) k) := by
  obtain ⟨-, -, -, -, -, -, -, -, e⟩ := idx_in t
  unfold token
  blk_ext [iblk, e]

/-! ## A point's values -/

/-- Head `h` of batch `B`. -/
noncomputable def hd (c : Dev nD) (B : Fin 2) (h : Fin 4) : Head :=
  headOf (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) B h

theorem logs_ne_top (c : Dev nD) (t : Fin cfg0.N) (i : S1024x256.Idx) : logs m c t i ≠ ⊤ := by
  idx_vars i
  unfold logs
  rw [logs_apply]
  exact decayOf_ne_top _

theorem point_logs (c : Dev nD) (t : Fin cfg0.N) (a : Fin 16) (i : Fin 64) (h : Fin 4) (d : Fin 64) :
    logs m c t (ix2 (row a i) (klane h d)) = (hd m c (batchOf t) h).la (chunkOf t a) i d := by
  unfold logs
  rw [logs_apply]
  show decayOf _ = decayOf _
  refine congrArg decayOf (congrArg₂ (· + ·) ?_ ((blk_b m c t _).trans (V_b m c _)))
  refine (Fin.sum_univ_add (a := 16) (b := 112) _).trans ?_
  rw [Finset.sum_eq_zero (s := (Finset.univ : Finset (Fin 112))), add_zero]
  · refine Finset.sum_congr rfl fun x _ => ?_
    rw [blk_lr, blk_W, V_W, token_row, dif_pos (show (Fin.castAdd 112 x).val < 16 from x.isLt)]
    rfl
  · intro x _
    rw [blk_W, V_W, dif_neg (show ¬(Fin.natAdd 16 x).val < 16 by rw [Fin.val_natAdd]; omega), mul_zero]

theorem point_cum (c : Dev nD) (t : Fin cfg0.N) (a : Fin 16) (i : Fin 64) (h : Fin 4) (d : Fin 64) :
    cum (logs m c t) (ix2 (row a i) (klane h d)) = (hd m c (batchOf t) h).run (chunkOf t a) i d := by
  refine (cum_apply _ (logs_ne_top m c t) a i (klane h d)).trans ?_
  unfold Head.run
  refine Finset.sum_congr rfl fun s _ => if_congr Iff.rfl (point_logs m c t a s h d) rfl

theorem point_q (c : Dev nD) (t : Fin cfg0.N) (a : Fin 16) (i : Fin 64) (h : Fin 4) (d : Fin 64) :
    k0_pay36 (cum (logs m c t)) (iblk m c 0 t) (ix2 (row a i) (klane h d)) = (hd m c (batchOf t) h).qin (chunkOf t a) i d := by
  rw [pay36_apply, point_cum, blk_q, token_row]
  rfl

theorem point_k (c : Dev nD) (t : Fin cfg0.N) (a : Fin 16) (i : Fin 64) (h : Fin 4) (d : Fin 64) :
    k0_pay37 (cum (logs m c t)) (iblk m c 1 t) (ix2 (row a i) (klane h d)) = (hd m c (batchOf t) h).kin (chunkOf t a) i d := by
  rw [pay37_apply, point_cum, blk_k, token_row]
  rfl

theorem point_kend (c : Dev nD) (t : Fin cfg0.N) (a : Fin 16) (i : Fin 64) (h : Fin 4) (d : Fin 64) :
    k0_pay38 (cum (logs m c t)) (ends (logs m c t)) (iblk m c 1 t) (ix2 (row a i) (klane h d))
      = (hd m c (batchOf t) h).kend (chunkOf t a) i d := by
  rw [pay38_apply, point_cum, blk_k, token_row, show ends (logs m c t) (ix2 (row a i) (klane h d)) = (hd m c (batchOf t) h).last (chunkOf t a) d from
    (ends_apply _ a i (klane h d)).trans (point_cum m c t a 63 h d)]
  rfl

theorem point_v (c : Dev nD) (t : Fin cfg0.N) (a : Fin 16) (i : Fin 64) (h : Fin 4) (w : Fin 128) :
    iblk m c 2 t (ix2 (row a i) (vlane h w)) = (hd m c (batchOf t) h).v (chunkOf t a) i w := by
  rw [blk_v, token_row]
  rfl

/-- A state array that holds each head's state before chunk `n`, and zeros off the heads. -/
def Holds (H : Fin 4 → Head) (n : ℕ) (S : FVec Ideal S512x256 .f32) : Prop :=
  ∀ (h' h : Fin 4) (w : Fin 128) (d : Fin 64), S (ix2 (vlane h' w) (klane h d)) = if h' = h then (H h).st n w d else 0

theorem holds_zero (H : Fin 4 → Head) : Holds H 0 k0_pay4 := fun h' h w d => by
  rw [pay4_apply]
  split_ifs <;> rfl

theorem holds_next (c : Dev nD) (t : Fin cfg0.N) (a : Fin 16) (S : FVec Ideal S512x256 .f32)
    (hS : Holds (hd m c (batchOf t)) (16 * (t.val % 8) + a.val) S) :
    Holds (hd m c (batchOf t)) (16 * (t.val % 8) + a.val + 1)
      (nextState (cum (logs m c t)) (k0_pay38 (cum (logs m c t)) (ends (logs m c t)) (iblk m c 1 t)) (iblk m c 2 t) a S) := fun h' h w d => by
  rw [next_apply, hS h' h w d]
  have eh : (vlane h' w).val / 128 = h'.val := by show (128 * h'.val + w.val) / 128 = h'.val; omega
  have eh' : (klane h d).val / 64 = h.val := by show (64 * h.val + d.val) / 64 = h.val; omega
  rw [eh, eh', show cum (logs m c t) (ix2 ⟨64 * a.val + 63, by omega⟩ (klane h d)) = (hd m c (batchOf t) h).last (chunkOf t a) d from
    point_cum m c t a 63 h d]
  by_cases hh : h' = h
  · subst hh
    have ec : (⟨(16 * (t.val % 8) + a.val) % 128, Nat.mod_lt _ (by decide)⟩ : Fin 128) = chunkOf t a :=
      Fin.ext (by show (16 * (t.val % 8) + a.val) % 128 = 16 * (t.val % 8) + a.val; omega)
    rw [if_pos rfl, if_pos rfl, if_pos rfl, Head.st, ec]
    refine congrArg (_ + ·) (Finset.sum_congr rfl fun j _ => ?_)
    exact congrArg₂ (· * ·) (point_v m c t a j h' w) (point_kend m c t a j h' d)
  · rw [if_neg hh, if_neg (fun e => hh (Fin.ext e)), if_neg hh, zero_mul, zero_add]

theorem stateAt_succ (G : FVec Ideal S1024x256 .f32) (KE : FVec Ideal S1024x256 .bf16) (V : Vec Ideal S1024x512 .f32)
    (S : FVec Ideal S512x256 .f32) (a : Fin 16) : stateAt G KE V S (a.val + 1) = nextState G KE V a (stateAt G KE V S a.val) :=
  congrArg (fun b => nextState G KE V b (stateAt G KE V S a.val)) (Fin.ext (Nat.mod_eq_of_lt a.isLt))

theorem holds_at (c : Dev nD) (t : Fin cfg0.N) (S : FVec Ideal S512x256 .f32) (hS : Holds (hd m c (batchOf t)) (16 * (t.val % 8)) S) (n : ℕ)
    (hn : n ≤ 16) : Holds (hd m c (batchOf t)) (16 * (t.val % 8) + n)
      (stateAt (cum (logs m c t)) (k0_pay38 (cum (logs m c t)) (ends (logs m c t)) (iblk m c 1 t)) (iblk m c 2 t) S n) := by
  induction n with
  | zero => exact hS
  | succ n ih =>
    have := holds_next m c t ⟨n, by omega⟩ _ (ih (by omega))
    rw [← stateAt_succ _ _ _ S ⟨n, by omega⟩] at this
    exact this

/-- The state a point starts from. -/
noncomputable def startOf (c : Dev nD) (t : Fin cfg0.N) : FVec Ideal S512x256 .f32 :=
  if t.val % 8 = 0 then k0_pay4 else (outsAt0 m c (t.val - 1) (by omega)).2.2

theorem step_o (c : Dev nD) (t : Fin cfg0.N) : (outsAt0 m c t.val t.isLt).1 = outOf m c t (startOf m c t) := by
  unfold startOf
  by_cases h0 : t.val % 8 = 0
  · rw [if_pos h0, step_o_first m c t h0]
  · rw [if_neg h0, step_o_next m c t h0]

theorem step_s (c : Dev nD) (t : Fin cfg0.N) : (outsAt0 m c t.val t.isLt).2.2 = stateOf m c t (startOf m c t) := by
  unfold startOf
  by_cases h0 : t.val % 8 = 0
  · rw [if_pos h0, step_s_first m c t h0]
  · rw [if_neg h0, step_s_next m c t h0]

/-- Every point starts from its batch's state before the point's first chunk. -/
theorem holds_start (c : Dev nD) : ∀ (n : ℕ) (hn : n < cfg0.N), Holds (hd m c (batchOf ⟨n, hn⟩)) (16 * (n % 8)) (startOf m c ⟨n, hn⟩)
  | 0, hn => by
    unfold startOf
    rw [if_pos (show (⟨0, hn⟩ : Fin cfg0.N).val % 8 = 0 from rfl)]
    exact holds_zero _
  | n + 1, hn => by
    unfold startOf
    by_cases h0 : (n + 1) % 8 = 0
    · rw [if_pos h0, h0]
      exact holds_zero _
    · rw [if_neg h0]
      have hs := holds_at m c ⟨n, by omega⟩ _ (holds_start c n (by omega)) 16 le_rfl
      have eb : batchOf ⟨n, by omega⟩ = batchOf ⟨n + 1, hn⟩ := Fin.ext (by show n / 8 = (n + 1) / 8; omega)
      have en : 16 * (n % 8) + 16 = 16 * ((n + 1) % 8) := by omega
      rw [eb, en] at hs
      have := step_s m c ⟨n, by omega⟩
      unfold stateOf at this
      rw [← this] at hs
      exact hs

theorem point_O (c : Dev nD) (t : Fin cfg0.N) (a : Fin 16) (i : Fin 64) (h : Fin 4) (w : Fin 128) (S : FVec Ideal S512x256 .f32)
    (hS : Holds (hd m c (batchOf t)) (chunkOf t a).val S) :
    chunkO (k0_pay36 (cum (logs m c t)) (iblk m c 0 t)) (k0_pay37 (cum (logs m c t)) (iblk m c 1 t)) (iblk m c 2 t) a S (ix2 i (vlane h w))
      = (hd m c (batchOf t) h).out (chunkOf t a) i w := by
  refine (chunkO_apply _ _ _ a S h (vlane h w) (by show (128 * h.val + w.val) / 128 = h.val; omega) (fun l hl => ?_) i).trans ?_
  · have := hS h ⟨l.val / 64, by omega⟩ w ⟨l.val % 64, by omega⟩
    rw [if_neg (fun e => hl (congrArg Fin.val e).symm)] at this
    rw [← this]
    exact congrArg (fun l' => S (ix2 (vlane h w) l')) (Fin.ext (Nat.div_add_mod _ _).symm)
  · unfold Head.out
    refine congrArg₂ (· + ·) (Finset.sum_congr rfl fun j _ => ?_) (Finset.sum_congr rfl fun d _ => ?_)
    · refine congrArg₂ (· * ·) ((att_apply _ _ a i h j).trans (if_congr Iff.rfl (Finset.sum_congr rfl fun d _ => ?_) rfl)) (point_v m c t a j h w)
      exact congrArg₂ (· * ·) (point_q m c t a i h d) (point_k m c t a j h d)
    · exact congrArg₂ (· * ·) (point_q m c t a i h d) ((hS h h w d).trans (if_pos rfl))

/-- A chunk's rows of a block. -/
theorem ld_rows (X : Vec Ideal S1024x512 .f32) (a : Fin 16) (i : Fin 64) (j : Fin 512) :
    View.ld X (Rect.unit (s := S1024x512) ![64 * a.val, 0] ![64, 512] (grows_in a)) (ix2 i j) = X (ix2 (row a i) j) := by
  unfold row
  pointwise

theorem point_attn (c : Dev nD) (t : Fin cfg0.N) (a : Fin 16) (i : Fin 64) (h : Fin 4) (w : Fin 128) :
    piece (k0_pay36 (cum (logs m c t)) (iblk m c 0 t)) (k0_pay37 (cum (logs m c t)) (iblk m c 1 t)) (cum (logs m c t))
      (k0_pay38 (cum (logs m c t)) (ends (logs m c t)) (iblk m c 1 t)) (iblk m c 2 t) (iblk m c 4 t) (k0_pay72 (iblk m c 7 t)) (startOf m c t) a
      (ix2 i (vlane h w))
      = attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (tok (batchOf t) (chunkOf t a) i) (vlane h w) := by
  have hO : ∀ u, _ = _ := fun u => point_O m c t a i h u _ (holds_at m c t _ (holds_start m c t.val t.isLt) a.val (by omega))
  unfold piece
  rw [gated_apply, attn_at, pay72_apply, ld_rows, blk_x, token_row, blk_nw, V_nw]
  simp only [hO]
  rfl

theorem final_o (c : Dev nD) : (dats m 0 c).arrAt 9 cfg0.N = fun i : S16384x512.Idx =>
    attn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) := by
  refine (dats m 0 c).arrAt_eq_of_covers 9 _ (by decide +kernel) fun t _ y => ?_
  obtain ⟨e, -⟩ := idx_out t
  blk_simp
  rw [after0_9, step_o]
  idx_vars y
  unfold outOf blockOut
  have ey : (y1 : Fin 512) = vlane ⟨y1.val / 128, by omega⟩ ⟨y1.val % 128, by omega⟩ := Fin.ext (Nat.div_add_mod _ _).symm
  have ht := tok_val t ⟨y0.val / 64, by omega⟩ ⟨y0.val % 64, by omega⟩
  have hr : (row ⟨y0.val / 64, by omega⟩ ⟨y0.val % 64, by omega⟩).val = y0.val := Nat.div_add_mod _ _
  refine (congrArg (fun j : Fin 512 => piece _ _ _ _ _ _ _ _ _ (ix2 _ j)) ey).trans ((point_attn m c t ⟨y0.val / 64, by omega⟩ ⟨y0.val % 64, by omega⟩ _ _).trans ?_)
  rw [← ey]
  exact congrArg₂ (attn _ _ _ _ _ _ _ _) (Fin.ext (by rw [ht, hr]; blk_simp [e]; show 1024 * t.val + y0.val = t.val * 1024 + y0.val; omega))
    (Fin.ext (by blk_simp [e]))

theorem final_u (c : Dev nD) : (dats m 0 c).arrAt 10 cfg0.N = fun i : S16384x1024.Idx =>
    (m ((c : Thread nD τ).loc main_arg8) (ix3 0 (i 0) (i 1)) : EReal) := by
  refine (dats m 0 c).arrAt_eq_of_covers 10 _ (by decide +kernel) fun t _ y => ?_
  obtain ⟨-, e⟩ := idx_out t
  blk_simp
  rw [after0_10, step_table]
  idx_vars y
  rw [pay3_apply, blk_u, V_u]
  exact congrArg₂ (fun a b => m ((c : Thread nD τ).loc main_arg8) (ix3 0 a b))
    (Fin.ext (by blk_simp [e]; show 1024 * t.val + y0.val = t.val * 1024 + y0.val; omega)) (Fin.ext (by blk_simp [e]))

end Cert.Proof.Gla
-- ==== Proof.GlaRef.lean ====
/- WHAT THE REFERENCE OF THE GATED LINEAR ATTENTION COMPUTES, stage by stage: the log-decays and their running sums, the scores, the state before
   each chunk as a decayed sum over the chunks before it, the outputs, their norm and their gate. -/
module

public import proofs.«01_k».proof.Proof.GlaFinal
public import proofs.«01_k».proof.Proof.Gen.GlaReferenceIdeal.Run

@[expose] public section

set_option maxRecDepth 16384

namespace Cert.Proof.Gla.Host

open Cert.GlaReferenceIdeal Cert.GlaReferenceIdeal.Gen
open Idealize.ShloMosaic Idealize.ShloMosaic.TcCoe
open Idealize.ShloMosaic.Pointwise

/-- The gate's preactivations. -/
noncomputable def pre (lr : FVec Ideal S16384x128 .f32) (W : FVec Ideal S1x16x256 .f32) (b : FVec Ideal S1x256 .f32) : FVec Ideal S16384x256 .f32 :=
  addf (Host.dotGeneral dot_S16384x16_S16x256_S16384x256_1_0_0_1_n_n none (extractStridedSlice S16384x16 ![0, 0] lr slices_S16384x128_S16384x16_0_0)
      (shapeCast _ W shapeCasts_S1x16x256_S16x256))
    (broadcastInDim S16384x256 ![0, 1] bcast_S1x256_S16384x256_0_1 (broadcastInDim S1x256 ![1] bcast_S256_S1x256_1 (shapeCast _ b shapeCasts_S1x256_S256)))

/-- The zeros of that shape. -/
noncomputable def zeros : FVec Ideal S16384x256 .f32 := broadcastInDim S16384x256 ![] bcast_S_S16384x256 (constant S_ .f32 0x00000000#32)

/-- The log-decays by batch, chunk, row, head and lane. -/
noncomputable def logDecay (y : FVec Ideal S16384x256 .f32) : FVec Ideal S2x128x64x4x64 .f32 :=
  shapeCast _ (Host.divf (Host.negf (select (cmpf .une (subf (Host.negf y) zeros) (subf (Host.negf y) zeros)) (addf (Host.negf y) zeros)
      (addf (maximumf (Host.negf y) zeros) (Host.log1p (Host.exp (Host.negf (Host.absf (subf (Host.negf y) zeros))))))))
    (broadcastInDim S16384x256 ![] bcast_S_S16384x256 (constant S_ .f32 0x41800000#32))) shapeCasts_S16384x256_S2x128x64x4x64

/-- Whether a column is at or before a row. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The running sums within a chunk. -/
noncomputable def sums (a : FVec Ideal S2x128x64x4x64 .f32) : FVec Ideal S2x128x64x4x64 .f32 :=
  Host.reduceAdd
    (select (broadcastInDim S2x128x64x64x4x64 ![2, 3, 4, 5] bcast_S64x64x1x1_S2x128x64x64x4x64_2_3_4_5 (broadcastInDim S64x64x1x1 ![0, 1] bcast_S64x64_S64x64x1x1_0_1 lower))
      (broadcastInDim S2x128x64x64x4x64 ![0, 1, 2, 3, 4, 5] bcast_S2x128x1x64x4x64_S2x128x64x64x4x64_0_1_2_3_4_5
        (broadcastInDim S2x128x1x64x4x64 ![0, 1, 3, 4, 5] bcast_S2x128x64x4x64_S2x128x1x64x4x64_0_1_3_4_5 a))
      (broadcastInDim S2x128x64x64x4x64 ![] bcast_S_S2x128x64x64x4x64 (constant S_ .f32 0x00000000#32)))
    (constant S_ .f32 0x00000000#32) reducesTo_S2x128x64x64x4x64_S2x128x64x4x64_d3 h_S_

/-- The sums over whole chunks. -/
noncomputable def lasts (G : FVec Ideal S2x128x64x4x64 .f32) : FVec Ideal S2x128x1x4x64 .f32 :=
  extractStridedSlice S2x128x1x4x64 ![0, 0, 63, 0, 0] G slices_S2x128x64x4x64_S2x128x1x4x64_0_0_63_0_0

noncomputable def decayedQ (q : FVec Ideal S16384x256 .f32) (G : FVec Ideal S2x128x64x4x64 .f32) : FVec Ideal S2x128x64x4x64 .f32 :=
  mulf (mulf (shapeCast _ q shapeCasts_S16384x256_S2x128x64x4x64) (broadcastInDim S2x128x64x4x64 ![] bcast_S_S2x128x64x4x64 (constant S_ .f32 0x3E000000#32)))
    (Host.exp G)

/-- The scores of each head's rows, zero after the row. -/
noncomputable def scores (k : FVec Ideal S16384x256 .f32) (G Q : FVec Ideal S2x128x64x4x64 .f32) : FVec Ideal S2x128x4x64x64 .f32 :=
  select (broadcastInDim S2x128x4x64x64 ![3, 4] bcast_S64x64_S2x128x4x64x64_3_4 lower)
    (Host.dotGeneral dot_S2x128x64x4x64_S2x128x64x4x64_S2x128x4x64x64_4_4_2_2_013_013 none Q
      (mulf (shapeCast _ k shapeCasts_S16384x256_S2x128x64x4x64) (Host.exp (Host.negf G))))
    (broadcastInDim S2x128x4x64x64 ![] bcast_S_S2x128x4x64x64 (constant S_ .f32 0x00000000#32))

/-- What each chunk adds to the state. -/
noncomputable def added (k : FVec Ideal S16384x256 .f32) (v : FVec Ideal S16384x512 .f32) (G : FVec Ideal S2x128x64x4x64 .f32) : FVec Ideal S2x128x4x64x128 .f32 :=
  Host.dotGeneral dot_S2x128x64x4x64_S2x128x64x4x128_S2x128x4x64x128_2_2_4_4_013_013 none
    (mulf (shapeCast _ k shapeCasts_S16384x256_S2x128x64x4x64)
      (Host.exp (subf (broadcastInDim S2x128x64x4x64 ![0, 1, 2, 3, 4] bcast_S2x128x1x4x64_S2x128x64x4x64_0_1_2_3_4 (lasts G)) G)))
    (shapeCast _ v shapeCasts_S16384x512_S2x128x64x4x128)

/-- The chunks' numbers. -/
def nums : IVec S128 32 := iotaInDim S128 32 0

/-- Whether a chunk is after the second and before the first. -/
def between : IVec S128x128x128 1 :=
  andi
    (broadcastInDim S128x128x128 ![0, 1, 2] bcast_S1x128x128_S128x128x128_0_1_2 (broadcastInDim S1x128x128 ![1, 2] bcast_S128x128_S1x128x128_1_2
      (cmpi .slt (broadcastInDim S128x128 ![0, 1] bcast_S128x1_S128x128_0_1 (broadcastInDim S128x1 ![0] bcast_S128_S128x1_0 nums))
        (broadcastInDim S128x128 ![0, 1] bcast_S1x128_S128x128_0_1 (broadcastInDim S1x128 ![1] bcast_S128_S1x128_1 nums)))))
    (broadcastInDim S128x128x128 ![0, 1, 2] bcast_S128x1x128_S128x128x128_0_1_2
      (cmpi .slt (broadcastInDim S128x1x128 ![0, 1, 2] bcast_S1x1x128_S128x1x128_0_1_2 (broadcastInDim S1x1x128 ![2] bcast_S128_S1x1x128_2 nums))
        (broadcastInDim S128x1x128 ![0, 1, 2] bcast_S128x1x1_S128x1x128_0_1_2 (broadcastInDim S128x1x1 ![0] bcast_S128_S128x1x1_0 nums))))

/-- Whether the second chunk is before the first. -/
def earlier : IVec S128x128 1 :=
  cmpi .slt (broadcastInDim S128x128 ![0, 1] bcast_S1x128_S128x128_0_1 (broadcastInDim S1x128 ![1] bcast_S128_S1x128_1 nums))
    (broadcastInDim S128x128 ![0, 1] bcast_S128x1_S128x128_0_1 (broadcastInDim S128x1 ![0] bcast_S128_S128x1_0 nums))

/-- The decays from one chunk's end to another's start. -/
noncomputable def decays (L : FVec Ideal S2x128x1x4x64 .f32) : FVec Ideal S2x128x128x4x64 .f32 :=
  select (broadcastInDim S2x128x128x4x64 ![1, 2, 3, 4] bcast_S128x128x1x1_S2x128x128x4x64_1_2_3_4 (broadcastInDim S128x128x1x1 ![0, 1] bcast_S128x128_S128x128x1x1_0_1 earlier))
    (Host.exp (Host.reduceAdd
      (select (broadcastInDim S2x128x128x128x4x64 ![1, 2, 3, 4, 5] bcast_S128x128x128x1x1_S2x128x128x128x4x64_1_2_3_4_5 (broadcastInDim S128x128x128x1x1 ![0, 1, 2] bcast_S128x128x128_S128x128x128x1x1_0_1_2 between))
        (broadcastInDim S2x128x128x128x4x64 ![0, 1, 2, 3, 4, 5] bcast_S2x1x1x128x4x64_S2x128x128x128x4x64_0_1_2_3_4_5
          (broadcastInDim S2x1x1x128x4x64 ![0, 3, 4, 5] bcast_S2x128x4x64_S2x1x1x128x4x64_0_3_4_5 (shapeCast _ L shapeCasts_S2x128x1x4x64_S2x128x4x64)))
        (broadcastInDim S2x128x128x128x4x64 ![] bcast_S_S2x128x128x128x4x64 (constant S_ .f32 0x00000000#32)))
      (constant S_ .f32 0x00000000#32) reducesTo_S2x128x128x128x4x64_S2x128x128x4x64_d3 h_S_))
    (broadcastInDim S2x128x128x4x64 ![] bcast_S_S2x128x128x4x64 (constant S_ .f32 0x00000000#32))

/-- The states before the chunks. -/
noncomputable def before (U : FVec Ideal S2x128x4x64x128 .f32) (D : FVec Ideal S2x128x128x4x64 .f32) : FVec Ideal S2x128x4x64x128 .f32 :=
  transpose S2x128x4x64x128 [0, 4, 1, 2, 3] (Host.dotGeneral dot_S2x128x4x64x128_S2x128x128x4x64_S2x4x64x128x128_1_2_4_1_023_034 none U D)
    transposes_S2x4x64x128x128_S2x128x4x64x128_0_4_1_2_3

/-- The outputs before the norm. -/
noncomputable def outs (v : FVec Ideal S16384x512 .f32) (Q : FVec Ideal S2x128x64x4x64 .f32) (A : FVec Ideal S2x128x4x64x64 .f32)
    (B : FVec Ideal S2x128x4x64x128 .f32) : FVec Ideal S2x128x64x4x128 .f32 :=
  addf
    (transpose S2x128x64x4x128 [0, 1, 4, 2, 3] (Host.dotGeneral dot_S2x128x64x4x128_S2x128x4x64x64_S2x128x4x128x64_2_4_4_3_013_012 none
      (shapeCast _ v shapeCasts_S16384x512_S2x128x64x4x128) A) transposes_S2x128x4x128x64_S2x128x64x4x128_0_1_4_2_3)
    (transpose S2x128x64x4x128 [0, 1, 4, 2, 3] (Host.dotGeneral dot_S2x128x4x64x128_S2x128x64x4x64_S2x128x4x128x64_3_4_4_2_012_013 none B Q)
      transposes_S2x128x4x128x64_S2x128x64x4x128_0_1_4_2_3)

/-- The outputs' norm, times its weight. -/
noncomputable def norm (O : FVec Ideal S2x128x64x4x128 .f32) (nw : FVec Ideal S1x128 .f32) : FVec Ideal S2x128x64x4x128 .f32 :=
  mulf
    (mulf O (broadcastInDim S2x128x64x4x128 ![0, 1, 2, 3, 4] bcast_S2x128x64x4x1_S2x128x64x4x128_0_1_2_3_4
      (Host.rsqrt (addf (Host.divf
        (broadcastInDim S2x128x64x4x1 ![0, 1, 2, 3] bcast_S2x128x64x4_S2x128x64x4x1_0_1_2_3
          (Host.reduceAdd (mulf O O) (constant S_ .f32 0x00000000#32) reducesTo_S2x128x64x4x128_S2x128x64x4_d4 h_S_))
        (broadcastInDim S2x128x64x4x1 ![] bcast_S_S2x128x64x4x1 (constant S_ .f32 0x43000000#32)))
        (broadcastInDim S2x128x64x4x1 ![] bcast_S_S2x128x64x4x1 (constant S_ .f32 0x358637BD#32))))))
    (broadcastInDim S2x128x64x4x128 ![0, 1, 2, 3, 4] bcast_S1x1x1x1x128_S2x128x64x4x128_0_1_2_3_4
      (broadcastInDim S1x1x1x1x128 ![4] bcast_S128_S1x1x1x1x128_4 (shapeCast _ nw shapeCasts_S1x128_S128)))

/-- The result from the normalised outputs and the output gate. -/
noncomputable def gate (N : FVec Ideal S2x128x64x4x128 .f32) (x : FVec Ideal S16384x512 .f32) : FVec Ideal S16384x512 .bf16 :=
  truncf .bf16
    (mulf (shapeCast _ N shapeCasts_S2x128x64x4x128_S16384x512)
      (mulf x (Host.divf (broadcastInDim S16384x512 ![] bcast_S_S16384x512 (constant S_ .f32 0x3F800000#32))
        (addf (broadcastInDim S16384x512 ![] bcast_S_S16384x512 (constant S_ .f32 0x3F800000#32)) (Host.exp (Host.negf x))))))
    bitsLt_bf16_f32

variable (m : (ℓ : Loc nD τ sig) → Buf (Elt Ideal) ℓ)

/-- The whole result from its running sums. -/
noncomputable def result (q k : FVec Ideal S16384x256 .f32) (v x : FVec Ideal S16384x512 .f32) (nw : FVec Ideal S1x128 .f32)
    (G : FVec Ideal S2x128x64x4x64 .f32) : FVec Ideal S16384x512 .bf16 :=
  gate (norm (outs v (decayedQ q G) (scores k G (decayedQ q G)) (before (added k v G) (decays (lasts G)))) nw) x

theorem res_eq (c : Dev nD) : Cert.GlaReferenceIdeal.Value.res_main_v87 m c
    = result (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg7))
      (sums (logDecay (pre (m ((c.tc : Thread nD τ).loc main_arg3)) (m ((c.tc : Thread nD τ).loc main_arg5)) (m ((c.tc : Thread nD τ).loc main_arg6))))) := by
  unfold Cert.GlaReferenceIdeal.Value.res_main_v87
  rfl

theorem pre_apply (lr : FVec Ideal S16384x128 .f32) (W : FVec Ideal S1x16x256 .f32) (b : FVec Ideal S1x256 .f32) (r : Fin 16384) (d : Fin 256) :
    pre lr W b (ix2 r d) = ∑ x : Fin 16, lr (ix2 r ⟨x.val, by omega⟩) * W (ix3 0 x d) + b (ix2 0 d) := by
  pointwise [pre]

theorem lower_apply (i j : Fin 64) : lower (ix2 i j) = BitVec.ofBool (decide (j.val ≤ i.val)) := by
  pointwise [lower]
  rw [show IntOp.addi (BitVec.ofNat 32 i.val) 0#32 = BitVec.ofNat 32 i.val from BitVec.add_zero _, ge_of_small _ _ (by omega) (by omega)]
  by_cases h : j.val ≤ i.val
  · rw [decide_eq_true h]; rfl
  · rw [decide_eq_false h]; rfl

/-- A sixteenth, as a product and as a quotient. -/
theorem div_sixteen (z : EReal) : Ideal.div z (Ideal.ofBits .f32 1098907648#32) = z * Ideal.ofBits .f32 1031798784#32 := by
  have h1 : Ideal.ofBits .f32 1098907648#32 = ((16 : ℝ) : EReal) := by
    simp [Ideal.ofBits, Ideal.ieee, -EReal.coe_mul]; norm_num
  have h2 : Ideal.ofBits .f32 1031798784#32 = (((1 : ℝ) / 16 : ℝ) : EReal) := by
    simp [Ideal.ofBits, Ideal.ieee, -EReal.coe_mul]; norm_num
  rw [h1, h2, Ideal.div_coe (by norm_num)]

theorem tok_eq (B : Fin 2) (C : Fin 128) (i : Fin 64) (h : B.val * 8192 + C.val * 64 + i.val < 16384) :
    (⟨B.val * 8192 + C.val * 64 + i.val, h⟩ : Fin 16384) = tok B C i :=
  Fin.ext (by show B.val * 8192 + C.val * 64 + i.val = 8192 * B.val + 64 * C.val + i.val; omega)

theorem klane_eq (h : Fin 4) (d : Fin 64) (hh : h.val * 64 + d.val < 256) : (⟨h.val * 64 + d.val, hh⟩ : Fin 256) = klane h d :=
  Fin.ext (by show h.val * 64 + d.val = 64 * h.val + d.val; omega)

theorem vlane_eq (h : Fin 4) (w : Fin 128) (hh : h.val * 128 + w.val < 512) : (⟨h.val * 128 + w.val, hh⟩ : Fin 512) = vlane h w :=
  Fin.ext (by show h.val * 128 + w.val = 128 * h.val + w.val; omega)

theorem logDecay_apply (y : FVec Ideal S16384x256 .f32) (B : Fin 2) (C : Fin 128) (i : Fin 64) (h : Fin 4) (d : Fin 64) :
    logDecay y (ix5 B C i h d) = decayOf (y (ix2 (tok B C i) (klane h d))) := by
  unfold logDecay zeros
  pointwise
  rw [tok_eq, klane_eq, div_sixteen, if_neg (fun e => e rfl)]
  unfold decayOf
  simp only [zero_sub]
  rfl

/-- A sum along the fourth of six axes. -/
theorem sum_fourth {n0 n1 n2 n3 n4 n5 : ℕ} (H : (⟨6, ![n0, n1, n2, n3, n4, n5]⟩ : Shape).ReducesTo [3] ⟨5, ![n0, n1, n2, n4, n5]⟩)
    (x : (⟨6, ![n0, n1, n2, n3, n4, n5]⟩ : Shape).Idx → EReal) (z : EReal) (a : Fin n0) (b : Fin n1) (c : Fin n2) (e : Fin n4) (f : Fin n5) :
    Ideal.hostReduceAdd H x z (ix5 a b c e f) = z + ∑ k : Fin n3, x (ix6 a b c k e f) := by
  refine congrArg (z + ·) (Finset.sum_filter_eq_sum_of_fiber _ (fun k : Fin n3 => ix6 a b c k e f) (fun _ _ g => congrFun g 3) (fun i => ⟨fun g => ?_, ?_⟩) x)
  · refine ⟨i 3, funext fun d => Fin.ext ?_⟩
    have v := fun q => congrArg Fin.val (congrFun g q)
    match d with
    | ⟨0, _⟩ => exact (v 0).symm
    | ⟨1, _⟩ => exact (v 1).symm
    | ⟨2, _⟩ => exact (v 2).symm
    | ⟨3, _⟩ => rfl
    | ⟨4, _⟩ => exact (v 3).symm
    | ⟨5, _⟩ => exact (v 4).symm
  · rintro ⟨k, rfl⟩
    funext q
    match q with
    | ⟨0, _⟩ => rfl
    | ⟨1, _⟩ => rfl
    | ⟨2, _⟩ => rfl
    | ⟨3, _⟩ => rfl
    | ⟨4, _⟩ => rfl

theorem sums_apply (a : FVec Ideal S2x128x64x4x64 .f32) (B : Fin 2) (C : Fin 128) (i : Fin 64) (h : Fin 4) (d : Fin 64) :
    sums a (ix5 B C i h d) = ∑ s : Fin 64, if s.val ≤ i.val then a (ix5 B C s h d) else 0 := by
  pointwise [sums]
  refine (sum_fourth _ _ _ B C i h d).trans ((zero_add _).trans (Finset.sum_congr rfl fun s _ => ?_))
  pointwise
  rw [lower_apply, select_ofBool]

theorem decayedQ_apply (q : FVec Ideal S16384x256 .f32) (G : FVec Ideal S2x128x64x4x64 .f32) (B : Fin 2) (C : Fin 128) (i : Fin 64) (h : Fin 4) (d : Fin 64) :
    decayedQ q G (ix5 B C i h d) = q (ix2 (tok B C i) (klane h d)) * Ideal.ofBits .f32 0x3E000000#32 * Ideal.exp (G (ix5 B C i h d)) := by
  pointwise [decayedQ]
  rw [tok_eq, klane_eq]

theorem scores_apply (k : FVec Ideal S16384x256 .f32) (G Q : FVec Ideal S2x128x64x4x64 .f32) (B : Fin 2) (C : Fin 128) (h : Fin 4) (i j : Fin 64) :
    scores k G Q (ix5 B C h i j) = if j.val ≤ i.val then
      ∑ d : Fin 64, Q (ix5 B C i h d) * (k (ix2 (tok B C j) (klane h d)) * Ideal.exp (0 - G (ix5 B C j h d))) else 0 := by
  pointwise [scores]
  rw [lower_apply, select_ofBool]
  simp only [tok_eq, klane_eq, zero_sub]

theorem added_apply (k : FVec Ideal S16384x256 .f32) (v : FVec Ideal S16384x512 .f32) (G : FVec Ideal S2x128x64x4x64 .f32)
    (B : Fin 2) (C : Fin 128) (h : Fin 4) (d : Fin 64) (w : Fin 128) :
    added k v G (ix5 B C h d w) =
      ∑ j : Fin 64, k (ix2 (tok B C j) (klane h d)) * Ideal.exp (G (ix5 B C 63 h d) - G (ix5 B C j h d)) * v (ix2 (tok B C j) (vlane h w)) := by
  pointwise [added, lasts]
  simp only [tok_eq, klane_eq, vlane_eq]

theorem lt_of_small (a b : ℕ) (ha : a < 128) (hb : b < 128) :
    IntOp.cmpi CmpIPredicate.slt (BitVec.ofNat 32 a) (BitVec.ofNat 32 b) = BitVec.ofBool (decide (a < b)) := by
  have h := (by decide +kernel : ∀ a b : Fin 128, IntOp.cmpi CmpIPredicate.slt (BitVec.ofNat 32 a.val) (BitVec.ofNat 32 b.val) = BitVec.ofBool (decide (a.val < b.val)))
  exact h ⟨a, ha⟩ ⟨b, hb⟩

theorem between_apply (C e n : Fin 128) : between (ix3 C e n) = BitVec.ofBool (decide (e.val < n.val ∧ n.val < C.val)) := by
  pointwise [between, nums]
  rw [lt_of_small _ _ e.isLt n.isLt, lt_of_small _ _ n.isLt C.isLt]
  by_cases h : e.val < n.val <;> by_cases h' : n.val < C.val <;> simp only [h, h', and_self, and_true, true_and, and_false, false_and, decide_true, decide_false] <;> rfl

theorem decays_apply (G : FVec Ideal S2x128x64x4x64 .f32) (B : Fin 2) (C e : Fin 128) (h : Fin 4) (d : Fin 64) :
    decays (lasts G) (ix5 B C e h d) =
      if e.val < C.val then Ideal.exp (∑ n : Fin 128, if e.val < n.val ∧ n.val < C.val then G (ix5 B n 63 h d) else 0) else 0 := by
  pointwise [decays, earlier, nums, lasts]
  rw [lt_of_small _ _ e.isLt C.isLt, select_ofBool]
  refine if_congr Iff.rfl (congrArg Ideal.exp ((sum_fourth _ _ _ B C e h d).trans ((zero_add _).trans (Finset.sum_congr rfl fun n _ => ?_)))) rfl
  pointwise
  rw [between_apply, select_ofBool]

theorem before_apply (U : FVec Ideal S2x128x4x64x128 .f32) (D : FVec Ideal S2x128x128x4x64 .f32) (B : Fin 2) (C : Fin 128) (h : Fin 4) (d : Fin 64)
    (w : Fin 128) : before U D (ix5 B C h d w) = ∑ e : Fin 128, U (ix5 B e h d w) * D (ix5 B C e h d) := by
  pointwise [before]

theorem outs_apply (v : FVec Ideal S16384x512 .f32) (Q : FVec Ideal S2x128x64x4x64 .f32) (A : FVec Ideal S2x128x4x64x64 .f32)
    (S : FVec Ideal S2x128x4x64x128 .f32) (B : Fin 2) (C : Fin 128) (i : Fin 64) (h : Fin 4) (w : Fin 128) :
    outs v Q A S (ix5 B C i h w) = ∑ j : Fin 64, v (ix2 (tok B C j) (vlane h w)) * A (ix5 B C h i j)
      + ∑ d : Fin 64, S (ix5 B C h d w) * Q (ix5 B C i h d) := by
  pointwise [outs]
  simp only [tok_eq, vlane_eq]

theorem norm_apply (O : FVec Ideal S2x128x64x4x128 .f32) (nw : FVec Ideal S1x128 .f32) (B : Fin 2) (C : Fin 128) (i : Fin 64) (h : Fin 4) (w : Fin 128) :
    norm O nw (ix5 B C i h w) = O (ix5 B C i h w) * Ideal.rsqrt (Ideal.div (∑ u : Fin 128, O (ix5 B C i h u) * O (ix5 B C i h u))
      (Ideal.ofBits .f32 0x43000000#32) + Ideal.ofBits .f32 0x358637BD#32) * nw (ix2 0 w) := by
  pointwise [norm]

theorem gate_apply (N : FVec Ideal S2x128x64x4x128 .f32) (x : FVec Ideal S16384x512 .f32) (r : Fin 16384) (j : Fin 512) :
    gate N x (ix2 r j) = N (ix5 ⟨r.val / 8192, by omega⟩ ⟨r.val % 8192 / 64, by omega⟩ ⟨r.val % 64, by omega⟩ ⟨j.val / 128, by omega⟩ ⟨j.val % 128, by omega⟩)
      * (x (ix2 r j) * Ideal.div 1 (1 + Ideal.exp (0 - x (ix2 r j)))) := by
  pointwise [gate]
  have e : (⟨r.val / 64 % 128, by omega⟩ : Fin 128) = ⟨r.val % 8192 / 64, by omega⟩ := Fin.ext (by show r.val / 64 % 128 = r.val % 8192 / 64; omega)
  rw [e, zero_sub]

/-! ## The stages are the head's -/

section
variable (q k : FVec Ideal S16384x256 .f32) (v : FVec Ideal S16384x512 .f32) (lr : FVec Ideal S16384x128 .f32)
  (x : FVec Ideal S16384x512 .f32) (W : FVec Ideal S1x16x256 .f32) (b : FVec Ideal S1x256 .f32) (nw : FVec Ideal S1x128 .f32)

theorem sums_head (B : Fin 2) (C : Fin 128) (i : Fin 64) (h : Fin 4) (d : Fin 64) :
    sums (logDecay (pre lr W b)) (ix5 B C i h d) = (headOf q k v lr W b B h).run C i d := by
  rw [sums_apply]
  refine Finset.sum_congr rfl fun s _ => if_congr Iff.rfl ?_ rfl
  rw [logDecay_apply, pre_apply]
  rfl

theorem state_head (B : Fin 2) (C : Fin 128) (h : Fin 4) (d : Fin 64) (w : Fin 128) :
    before (added k v (sums (logDecay (pre lr W b)))) (decays (lasts (sums (logDecay (pre lr W b))))) (ix5 B C h d w)
      = (headOf q k v lr W b B h).st C.val w d := by
  rw [before_apply, Head.st_eq _ (headOf_last_ne_top q k v lr W b B h) w d C.val C.isLt.le]
  refine Finset.sum_congr rfl fun e _ => congrArg₂ (· * ·) ?_ ?_
  · rw [added_apply]
    refine Finset.sum_congr rfl fun j _ => ?_
    rw [sums_head q k v, sums_head q k v, mul_comm]
    rfl
  · rw [decays_apply]
    unfold Head.left
    refine if_congr Iff.rfl (congrArg Ideal.exp (Finset.sum_congr rfl fun n _ => if_congr Iff.rfl ?_ rfl)) rfl
    exact sums_head q k v lr W b B n 63 h d

theorem query_head (B : Fin 2) (C : Fin 128) (i : Fin 64) (h : Fin 4) (d : Fin 64) :
    decayedQ q (sums (logDecay (pre lr W b))) (ix5 B C i h d) = (headOf q k v lr W b B h).qin C i d := by
  rw [decayedQ_apply, sums_head q k v]
  rfl

theorem outs_head (B : Fin 2) (C : Fin 128) (i : Fin 64) (h : Fin 4) (w : Fin 128) :
    outs v (decayedQ q (sums (logDecay (pre lr W b)))) (scores k (sums (logDecay (pre lr W b))) (decayedQ q (sums (logDecay (pre lr W b)))))
      (before (added k v (sums (logDecay (pre lr W b)))) (decays (lasts (sums (logDecay (pre lr W b)))))) (ix5 B C i h w)
      = (headOf q k v lr W b B h).out C i w := by
  rw [outs_apply]
  unfold Head.out
  refine congrArg₂ (· + ·) (Finset.sum_congr rfl fun j _ => ?_) (Finset.sum_congr rfl fun d _ => ?_)
  · rw [mul_comm, scores_apply]
    refine congrArg (· * _) (if_congr Iff.rfl (Finset.sum_congr rfl fun d _ => ?_) rfl)
    rw [query_head q k v, sums_head q k v]
    rfl
  · rw [mul_comm, query_head q k v, state_head q k v]

theorem ref_o : result q k v x nw (sums (logDecay (pre lr W b))) = fun i : S16384x512.Idx => attn q k v lr x W b nw (i 0) (i 1) := by
  funext i
  idx_vars i
  unfold result
  rw [gate_apply, norm_apply]
  simp only [outs_head]
  rfl

end

theorem ref_u (u : FVec Ideal S1x16384x1024 .f32) :
    (truncf .bf16 (shapeCast _ u shapeCasts_S1x16384x1024_S16384x1024) bitsLt_bf16_f32 : FVec Ideal S16384x1024 .bf16)
      = fun i : S16384x1024.Idx => (u (ix3 0 (i 0) (i 1)) : EReal) := by
  funext i
  idx_vars i
  pointwise

end Cert.Proof.Gla.Host
-- ==== Proof.lean ====
/- THE CLAIMS, assembled. Four calls of the layer: the expert feed-forward, the input projections, the attentions' outputs mixed in, and the gated
   linear attention. Each has its frames, its rewrites (one named constant; none in the other three) and its value: the arrays the kernel returns and those the reference
   returns are the same functions of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Acc
public import proofs.«01_k».proof.Proof.Ref
public import proofs.«01_k».proof.Proof.ProjRef
public import proofs.«01_k».proof.Proof.MixRef
public import proofs.«01_k».proof.Proof.GlaRef
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.OutQuery.Frame
public import proofs.«01_k».proof.Proof.Gen.OutQueryIdeal.Frame
public import proofs.«01_k».proof.Proof.Gen.OutQueryIdeal.Value
public import proofs.«01_k».proof.Proof.Gen.OutQueryReferenceIdeal.Run
public import proofs.«01_k».proof.Proof.Gen.Gla.Frame
public import proofs.«01_k».proof.Proof.Gen.GlaIdeal.Frame
public import proofs.«01_k».proof.Proof.Gen.GlaIdeal.Value
public import proofs.«01_k».proof.Proof.Gen.GlaReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's result and the reference's are one array, at every extended real. -/
theorem peer_value : Cert.algebraic_KernelIdeal_ReferenceIdeal := by
  intro m g m' g' _ hm
  refine ⟨fun c => (Cert.KernelIdeal.Gen.dats m 0 c).arrAt 6 Cert.KernelIdeal.cfg0.N, Cert.KernelIdeal.Value.run_blocks m g, ?_⟩
  refine (θ_run _ _ _).mono (fun r h c => ?_) (Cert.ReferenceIdeal.Value.run m' g')
  obtain ⟨h, hk⟩ := h c
  refine ⟨h.trans ((Host.ref_result m' c).trans (Eq.trans ?_ (final m c).symm)), hk⟩
  obtain ⟨e0, e1, e2, e3, e4, e5⟩ := hm c
  rw [e0, e1, e2, e3, e4, e5]

/-- The projections are the reference's. -/
theorem proj_value : Cert.algebraic_InProjIdeal_InProjReferenceIdeal := by
  intro m g m' g' _ hm
  refine ⟨fun c => (Cert.InProjIdeal.Gen.dats m 0 c).arrAt 3 Cert.InProjIdeal.cfg0.N,
    fun c => (Cert.InProjIdeal.Gen.dats m 0 c).arrAt 4 Cert.InProjIdeal.cfg0.N,
    fun c => (Cert.InProjIdeal.Gen.dats m 0 c).arrAt 5 Cert.InProjIdeal.cfg0.N,
    fun c => (Cert.InProjIdeal.Gen.dats m 0 c).arrAt 6 Cert.InProjIdeal.cfg0.N,
    fun c => (Cert.InProjIdeal.Gen.dats m 0 c).arrAt 7 Cert.InProjIdeal.cfg0.N,
    fun c => (Cert.InProjIdeal.Gen.dats m 0 c).arrAt 8 Cert.InProjIdeal.cfg0.N,
    fun c => (Cert.InProjIdeal.Gen.dats m 0 c).arrAt 9 Cert.InProjIdeal.cfg0.N,
    fun c => (Cert.InProjIdeal.Gen.dats m 0 c).arrAt 10 Cert.InProjIdeal.cfg0.N,
    Cert.InProjIdeal.Value.run_blocks m g, ?_⟩
  refine (θ_run _ _ _).mono (fun r h c => ?_) (Cert.InProjReferenceIdeal.Value.run m' g')
  obtain ⟨h0, h1, h2, h3, h4, h5, h6, h7, hk⟩ := h c
  obtain ⟨e0, e1, e2⟩ := hm c
  exact ⟨h0.trans ((Proj.Host.ref_q _ _ _).trans (Eq.trans (by rw [e0, e1, e2]) (Proj.final_q m c).symm)),
    h1.trans ((Proj.Host.ref_k _ _ _).trans (Eq.trans (by rw [e0, e1, e2]) (Proj.final_k m c).symm)),
    h2.trans ((Proj.Host.ref_v _ _ _).trans (Eq.trans (by rw [e0, e1, e2]) (Proj.final_v m c).symm)),
    h3.trans ((Proj.Host.ref_gate _ _ _).trans (Eq.trans (by rw [e0, e1, e2]) (Proj.final_gate m c).symm)),
    h4.trans ((Proj.Host.ref_z _ _ _).trans (Eq.trans (by rw [e0, e1, e2]) (Proj.final_z m c).symm)),
    h5.trans ((Proj.Host.ref_conv _ _ _).trans (Eq.trans (by rw [e0, e1, e2]) (Proj.final_conv m c).symm)),
    h6.trans ((Proj.Host.ref_rank _ _ _).trans (Eq.trans (by rw [e0, e1, e2]) (Proj.final_rank m c).symm)),
    h7.trans ((Proj.Host.ref_step _ _ _).trans (Eq.trans (by rw [e0, e1, e2]) (Proj.final_step m c).symm)), hk⟩

/-- The residual, its normalisation and the tables' scores are the reference's. -/
theorem mix_value : Cert.algebraic_OutQueryIdeal_OutQueryReferenceIdeal := by
  intro m g m' g' _ hm
  refine ⟨fun c => (Cert.OutQueryIdeal.Gen.dats m 0 c).arrAt 7 Cert.OutQueryIdeal.cfg0.N,
    fun c => (Cert.OutQueryIdeal.Gen.dats m 0 c).arrAt 8 Cert.OutQueryIdeal.cfg0.N,
    fun c => (Cert.OutQueryIdeal.Gen.dats m 0 c).arrAt 9 Cert.OutQueryIdeal.cfg0.N,
    Cert.OutQueryIdeal.Value.run_blocks m g, ?_⟩
  refine (θ_run _ _ _).mono (fun r h c => ?_) (Cert.OutQueryReferenceIdeal.Value.run m' g')
  obtain ⟨h0, h1, h2, hk⟩ := h c
  obtain ⟨e0, e1, e2, e3, e4, e5, e6⟩ := hm c
  exact ⟨h0.trans ((Mix.Host.ref_h _ _ _ _).trans (Eq.trans (by rw [e0, e1, e2, e3]) (Mix.final_h m c).symm)),
    h1.trans ((Mix.Host.ref_n _ _ _ _ _).trans (Eq.trans (by rw [e0, e1, e2, e3, e4]) (Mix.final_n m c).symm)),
    h2.trans ((Mix.Host.ref_s _ _ _ _ _ _ _).trans (Eq.trans (by rw [e0, e1, e2, e3, e4, e5, e6]) (Mix.final_s m c).symm)), hk⟩

/-- The gated linear attention is the reference's, and the table its cast. -/
theorem gla_value : Cert.algebraic_GlaIdeal_GlaReferenceIdeal := by
  intro m g m' g' _ hm
  refine ⟨fun c => (Cert.GlaIdeal.Gen.dats m 0 c).arrAt 9 Cert.GlaIdeal.cfg0.N,
    fun c => (Cert.GlaIdeal.Gen.dats m 0 c).arrAt 10 Cert.GlaIdeal.cfg0.N,
    Cert.GlaIdeal.Value.run_blocks m g, ?_⟩
  refine (θ_run _ _ _).mono (fun r h c => ?_) (Cert.GlaReferenceIdeal.Value.run m' g')
  obtain ⟨h0, h1, hk⟩ := h c
  obtain ⟨e0, e1, e2, e3, e4, e5, e6, e7, e8⟩ := hm c
  exact ⟨h0.trans (((Gla.Host.res_eq m' c).trans (Gla.Host.ref_o _ _ _ _ _ _ _ _)).trans
      (Eq.trans (by rw [e0, e1, e2, e3, e4, e5, e6, e7]) (Gla.final_o m c).symm)),
    h1.trans ((Gla.Host.ref_u _).trans (Eq.trans (by rw [e8]) (Gla.final_u m c).symm)), hk⟩

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.OutQuery.Gen.facts, Cert.OutQueryIdeal.Gen.facts, Cert.OutQueryReferenceIdeal.Gen.facts,
  Cert.Gla.Gen.facts, Cert.GlaIdeal.Gen.facts, Cert.GlaReferenceIdeal.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => Cert.InProj.Gen.frame m ρ,
  fun m ρ _ => Cert.InProjIdeal.Gen.frame m ρ,
  fun m ρ _ => (θ_run _ _ _).mono (fun r h => ⟨fun c => (h c).2.2.2.2.2.2.2.2, sem_eq_zero_of_no_sems (by decide) r.2⟩)
    (Cert.InProjReferenceIdeal.Value.run m ρ),
  fun m ρ _ => Cert.OutQuery.Gen.frame m ρ,
  fun m ρ _ => Cert.OutQueryIdeal.Gen.frame m ρ,
  fun m ρ _ => (θ_run _ _ _).mono (fun r h => ⟨fun c => (h c).2.2.2, sem_eq_zero_of_no_sems (by decide) r.2⟩)
    (Cert.OutQueryReferenceIdeal.Value.run m ρ),
  fun m ρ _ => Cert.Gla.Gen.frame m ρ,
  fun m ρ _ => Cert.GlaIdeal.Gen.frame m ρ,
  fun m ρ _ => (θ_run _ _ _).mono (fun r h => ⟨fun c => (h c).2.2, sem_eq_zero_of_no_sems (by decide) r.2⟩)
    (Cert.GlaReferenceIdeal.Value.run m ρ),
  Idealize.ShloMosaic.IdealRules.named_const.statement Cert.KernelIdeal.κ "inv_sqrt2" .bf16 0x3F35#16 (((Real.sqrt 2)⁻¹ : ℝ) : EReal) rfl,
  peer_value,
  trivial,
  proj_value,
  trivial,
  mix_value,
  trivial,
  gla_value⟩

end Cert.Proof

end
